-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S2x256x4096 : Shape := ⟨3, ![2, 256, 4096]⟩
abbrev S2 : Shape := ⟨1, ![2]⟩
abbrev S_ : Shape := ⟨0, ![]⟩
abbrev S256x4096 : Shape := ⟨2, ![256, 4096]⟩
abbrev S1x256x4096 : Shape := ⟨3, ![1, 256, 4096]⟩
abbrev S1 : Shape := ⟨1, ![1]⟩
abbrev S512x1024 : Shape := ⟨2, ![512, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S4096x1024, .f32⟩
  | .hbm, ⟨2, _⟩ => ⟨S4096x1024, .f32⟩
  | .local _ .vmem, ⟨0, _⟩ => ⟨S512x4096, .f32⟩
  | .local _ .vmem, ⟨1, _⟩ => ⟨S4096x1024, .f32⟩
  | .local _ .vmem, ⟨2, _⟩ => ⟨S4096x1024, .f32⟩
  | .local _ .vmem, ⟨3, _⟩ => ⟨S2x256x4096, .f32⟩
  | .local _ .vmem, ⟨4, _⟩ => ⟨S2x256x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 3 11 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_6 : BitVec 32 := 1#32
  let v10 : BitVec 32 := Scalar.muli v6 c1_i32_6
  let v11 : BitVec 32 := Scalar.addi c0_i32_7 v10
  v11.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_20 : BitVec 32 := 1#32
  let v22 : BitVec 32 := Scalar.muli v6 c1_i32_20
  let v23 : BitVec 32 := Scalar.addi c0_i32_21 v22
  v23.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_30 : BitVec 32 := 1#32
  let v32 : BitVec 32 := Scalar.muli v4 c1_i32_30
  let v33 : BitVec 32 := Scalar.addi c0_i32_31 v32
  v33.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v49 : BitVec 32 := Scalar.muli v2 c512_i32
  let v50 : Index := Scalar.indexCast v49
  let c0_41 : Index := 0#32
  ![v50.toNat, 0]
def k0_dev5 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_61 : BitVec 32 := 1#32
  let v64 : BitVec 32 := Scalar.muli v4 c1_i32_61
  let v65 : BitVec 32 := Scalar.addi c0_i32_62 v64
  v65.toNat
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_64 : BitVec 32 := 1#32
  let v66 : BitVec 32 := Scalar.muli v6 c1_i32_64
  let v67 : BitVec 32 := Scalar.addi c0_i32_65 v66
  v67.toNat
def k0_dev7 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_94 : BitVec 32 := 1#32
  let v84 : BitVec 32 := Scalar.muli v6 c1_i32_94
  let v85 : BitVec 32 := Scalar.addi c0_i32_95 v84
  v85.toNat
def k0_dev8 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_104 : BitVec 32 := 1#32
  let v94 : BitVec 32 := Scalar.muli v4 c1_i32_104
  let v95 : BitVec 32 := Scalar.addi c0_i32_105 v94
  v95.toNat
def k0_off2 (d0 : Dev nD) (c7_i32_110 : BitVec 32) (c0_i32_121 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v104 : BitVec 32 := Scalar.addi v2 c7_i32_110
  let c8_i32_111 : BitVec 32 := 8#32
  let v105 : BitVec 32 := Scalar.remsi v104 c8_i32_111
  let c512_i32_120 : BitVec 32 := 512#32
  let v115 : BitVec 32 := Scalar.muli v105 c512_i32_120
  let v116 : BitVec 32 := Scalar.addi v115 c0_i32_121
  let v117 : Index := Scalar.indexCast v116
  let c0_122 : Index := 0#32
  ![v117.toNat, 0]
def k0_dev9 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_151 : BitVec 32 := 1#32
  let v142 : BitVec 32 := Scalar.muli v4 c1_i32_151
  let v143 : BitVec 32 := Scalar.addi c0_i32_152 v142
  v143.toNat
def k0_dev10 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_154 : BitVec 32 := 1#32
  let v144 : BitVec 32 := Scalar.muli v6 c1_i32_154
  let v145 : BitVec 32 := Scalar.addi c0_i32_155 v144
  v145.toNat
def k0_dev11 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_184 : BitVec 32 := 1#32
  let v162 : BitVec 32 := Scalar.muli v6 c1_i32_184
  let v163 : BitVec 32 := Scalar.addi c0_i32_185 v162
  v163.toNat
def k0_dev12 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_194 : BitVec 32 := 1#32
  let v172 : BitVec 32 := Scalar.muli v4 c1_i32_194
  let v173 : BitVec 32 := Scalar.addi c0_i32_195 v172
  v173.toNat
def k0_dev13 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_242 : BitVec 32 := 1#32
  let v220 : BitVec 32 := Scalar.muli v4 c1_i32_242
  let v221 : BitVec 32 := Scalar.addi c0_i32_243 v220
  v221.toNat
def k0_dev14 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_245 : BitVec 32 := 1#32
  let v222 : BitVec 32 := Scalar.muli v6 c1_i32_245
  let v223 : BitVec 32 := Scalar.addi c0_i32_246 v222
  v223.toNat
def k0_dev15 (d0 : Dev nD) : Nat :=
  let c0_i32_276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_275 : BitVec 32 := 1#32
  let v240 : BitVec 32 := Scalar.muli v6 c1_i32_275
  let v241 : BitVec 32 := Scalar.addi c0_i32_276 v240
  v241.toNat
def k0_dev16 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_285 : BitVec 32 := 1#32
  let v250 : BitVec 32 := Scalar.muli v4 c1_i32_285
  let v251 : BitVec 32 := Scalar.addi c0_i32_286 v250
  v251.toNat
def k0_dev17 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_332 : BitVec 32 := 1#32
  let v298 : BitVec 32 := Scalar.muli v4 c1_i32_332
  let v299 : BitVec 32 := Scalar.addi c0_i32_333 v298
  v299.toNat
def k0_dev18 (d0 : Dev nD) : Nat :=
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_335 : BitVec 32 := 1#32
  let v300 : BitVec 32 := Scalar.muli v6 c1_i32_335
  let v301 : BitVec 32 := Scalar.addi c0_i32_336 v300
  v301.toNat
def k0_dev19 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_365 : BitVec 32 := 1#32
  let v318 : BitVec 32 := Scalar.muli v6 c1_i32_365
  let v319 : BitVec 32 := Scalar.addi c0_i32_366 v318
  v319.toNat
def k0_dev20 (d0 : Dev nD) : Nat :=
  let c0_i32_376 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_375 : BitVec 32 := 1#32
  let v328 : BitVec 32 := Scalar.muli v4 c1_i32_375
  let v329 : BitVec 32 := Scalar.addi c0_i32_376 v328
  v329.toNat
def k0_dev21 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_423 : BitVec 32 := 1#32
  let v376 : BitVec 32 := Scalar.muli v4 c1_i32_423
  let v377 : BitVec 32 := Scalar.addi c0_i32_424 v376
  v377.toNat
def k0_dev22 (d0 : Dev nD) : Nat :=
  let c0_i32_427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_426 : BitVec 32 := 1#32
  let v378 : BitVec 32 := Scalar.muli v6 c1_i32_426
  let v379 : BitVec 32 := Scalar.addi c0_i32_427 v378
  v379.toNat
def k0_dev23 (d0 : Dev nD) : Nat :=
  let c0_i32_457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_456 : BitVec 32 := 1#32
  let v396 : BitVec 32 := Scalar.muli v6 c1_i32_456
  let v397 : BitVec 32 := Scalar.addi c0_i32_457 v396
  v397.toNat
def k0_dev24 (d0 : Dev nD) : Nat :=
  let c0_i32_467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_466 : BitVec 32 := 1#32
  let v406 : BitVec 32 := Scalar.muli v4 c1_i32_466
  let v407 : BitVec 32 := Scalar.addi c0_i32_467 v406
  v407.toNat
def k0_dev25 (d0 : Dev nD) : Nat :=
  let c0_i32_516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_515 : BitVec 32 := 1#32
  let v454 : BitVec 32 := Scalar.muli v4 c1_i32_515
  let v455 : BitVec 32 := Scalar.addi c0_i32_516 v454
  v455.toNat
def k0_dev26 (d0 : Dev nD) : Nat :=
  let c0_i32_519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_518 : BitVec 32 := 1#32
  let v456 : BitVec 32 := Scalar.muli v6 c1_i32_518
  let v457 : BitVec 32 := Scalar.addi c0_i32_519 v456
  v457.toNat
def k0_dev27 (d0 : Dev nD) : Nat :=
  let c0_i32_549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_548 : BitVec 32 := 1#32
  let v474 : BitVec 32 := Scalar.muli v6 c1_i32_548
  let v475 : BitVec 32 := Scalar.addi c0_i32_549 v474
  v475.toNat
def k0_dev28 (d0 : Dev nD) : Nat :=
  let c0_i32_559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_558 : BitVec 32 := 1#32
  let v484 : BitVec 32 := Scalar.muli v4 c1_i32_558
  let v485 : BitVec 32 := Scalar.addi c0_i32_559 v484
  v485.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Lanes.lean ====
/-
The ring and its two lanes

Eight devices stand on a ring. Lane `false` carries the top half of every device's block of `x` clockwise (to the
next device), lane `true` carries the bottom half counter-clockwise. Everything about one lane is written once, at a
symbolic lane `b`: its neighbours, its two-slot buffer, its semaphores, and what a slot holds.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.ViewIndex
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Devices -/

set_option backward.proofsInPublic true in
/-- Where lane `b` of device `c` copies to. -/
def tgt (b : Bool) (c : Dev nD) : Dev nD := ⟨(c.val + if b then 7 else 1) % 8, Nat.mod_lt _ (by decide)⟩
set_option backward.proofsInPublic true in
/-- Where the copies of lane `b` that land on device `c` come from. -/
def org (b : Bool) (c : Dev nD) : Dev nD := ⟨(c.val + if b then 1 else 7) % 8, Nat.mod_lt _ (by decide)⟩
set_option backward.proofsInPublic true in
/-- Whose half block lane `b` of device `c` holds at hop `h`. -/
def home (b : Bool) (h : ℕ) (c : Dev nD) : Dev nD := ⟨(c.val + if b then h else 7 * h) % 8, Nat.mod_lt _ (by decide)⟩

/-- The copies that land on the device one copies to are one's own, -/
theorem org_tgt (b : Bool) (c : Dev nD) : org b (tgt b c) = c := by revert b c; decide
/-- and the other way around. -/
theorem tgt_org (b : Bool) (c : Dev nD) : tgt b (org b c) = c := by revert b c; decide
/-- What a device sends at hop `h` is what its neighbour holds at hop `h + 1`. -/
theorem home_tgt (b : Bool) (h : ℕ) (c : Dev nD) : home b (h + 1) (tgt b c) = home b h c := by
  cases b <;> exact Fin.ext (by simp only [home, tgt, Bool.false_eq_true, if_false, if_true]; omega)
/-- At hop 0 a device holds its own half block. -/
theorem home_zero (b : Bool) (c : Dev nD) : home b 0 c = c := by revert b c; decide

/-- One lane's step round the ring, as a permutation of the devices. -/
def ring (b : Bool) : Dev nD ≃ Dev nD := ⟨tgt b, org b, org_tgt b, tgt_org b⟩

/-! ## The two-slot buffers -/

/-- The slot that hop `n` uses. -/
def sl (n : ℕ) : Fin 2 := ⟨n % 2, Nat.mod_lt _ (by decide)⟩
/-- Slots alternate with period two, -/
theorem sl_add_two (n : ℕ) : sl (n + 2) = sl n := Fin.ext (by simp only [sl]; omega)
/-- and neighbouring hops use different slots. -/
theorem sl_ne_succ (n : ℕ) : sl n ≠ sl (n + 1) := fun h => by have := congrArg Fin.val h; simp only [sl] at this; omega

set_option backward.proofsInPublic true in
/-- Lane `b`'s buffer of two slots. -/
def bufM : Bool → Memref sig .tc .vmem S2x256x4096 .f32
  | false => Memref.whole cc0_scratch0
  | true => Memref.whole cc0_scratch1

/-- Either slot lies in the double buffer. -/
theorem slotInb (s : Fin 2) : ∀ a, (![s.val, 0, 0] : Fin 3 → ℕ) a + S1x256x4096.size a ≤ S2x256x4096.size a := by
  revert s; decide
/-- The rectangle of slot `s`. -/
abbrev slotR (s : Fin 2) : Rect S2x256x4096 := Rect.unit (s := S2x256x4096) ![s.val, 0, 0] S1x256x4096.size (slotInb s)
/-- Slot `s` of lane `b` as the loads and stores see it, -/
abbrev slotV (b : Bool) (s : Fin 2) : View sig .tc .vmem S1x256x4096 .f32 := (bufM b).access (slotR s)
/-- and as the copies see it. -/
abbrev slotM (b : Bool) (s : Fin 2) : Memref sig .tc .vmem S256x4096 .f32 :=
  ((bufM b).slice (slotR s) (fun _ => rfl)).squeeze S256x4096 squeezes_S1x256x4096_S256x4096

/-- The two views of a slot have the same elements. -/
theorem slotM_set (b : Bool) (s : Fin 2) : (slotM b s).view.set = (slotV b s).set := View.set_reshape _ _

/-- An index of a slot, from one of the buffer: the slot's coordinate dropped. -/
def low (i : S2x256x4096.Idx) : S1x256x4096.Idx := fun a => match a with
  | ⟨0, _⟩ => (0 : Fin 1)
  | ⟨1, _⟩ => i 1
  | ⟨2, _⟩ => i 2

/-- Buffer contents whose slots both hold `X`. -/
def fillB (b : Bool) (X : S1x256x4096.Idx → Elt F .f32) : (bufM b).view.ty.Contents (Elt F) := match b with
  | false => fun i => X (low i)
  | true => fun i => X (low i)

omit [FloatOps F] in
/-- A slot of such contents reads `X`, -/
theorem slotV_fill (b : Bool) (s : Fin 2) (X : S1x256x4096.Idx → Elt F .f32) : (slotV b s).read (Elt F) (fillB b X) = X := by
  have key : ∀ x : S1x256x4096.Idx, low ((slotR s).emb x) = x := fun x =>
    Shape.idx3_ext (by have h : (x 0).val < 1 := (x 0).isLt; show 0 = (x 0).val; omega)
      (by show 0 + 1 * (x 1).val = (x 1).val; omega) (by show 0 + 1 * (x 2).val = (x 2).val; omega)
  cases b <;> exact funext fun x => congrArg X (key x)

omit [FloatOps F] in
/-- through either view. -/
theorem slotM_fill (b : Bool) (s : Fin 2) (X : S1x256x4096.Idx → Elt F .f32) (x : S256x4096.Idx) :
    (slotM b s).view.read (Elt F) (fillB b X) x = X (Shape.reshapeEquiv squeezes_S1x256x4096_S256x4096.numel_eq x) :=
  congrFun (slotV_fill b s X) _

end Cert.RingProof

end
-- ==== Proof.Slots.lean ====
/-
Holding a slot

The resource algebra of the proof, and the assertions about one slot of a lane's buffer: held at a share with given
contents, or held at any contents. A whole buffer is its two slots.
-/
module

public import proofs.«01_k».proof.Proof.Lanes

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A key names one landing: the device, the lane, and the hop whose copy lands there. -/
abbrev Key : Type := Dev nD × Bool × ℕ

/-- The protocol's algebra: the rounds of the cells, and the released slots. -/
abbrev UB : Type := URounds (GSem nD τ sig) ℕ × Release.USlots Key
/-- The ghost state: the pipeline's and the ring's. -/
abbrev UU : Type := UR sig nD τ × UB

local notation "𝕄" => MT nD τ sig ℕ (Elt F) ℕ UU ℕ

/-- The pipeline's part, -/
abbrev EP : Emb (UR sig nD τ) (MT nD τ sig ℕ (Elt F) ℕ UU ℕ) := embL
/-- the ring's part, -/
abbrev EU : Emb UB (MT nD τ sig ℕ (Elt F) ℕ UU ℕ) := embR
/-- in it the rounds, -/
abbrev ER : Emb (URounds (GSem nD τ sig) ℕ) (MT nD τ sig ℕ (Elt F) ℕ UU ℕ) := Emb.inl.trans EU
/-- and the released slots. -/
abbrev ES : Emb (Release.USlots Key) (MT nD τ sig ℕ (Elt F) ℕ UU ℕ) := Emb.inr.trans EU

/-- Slot `s` of lane `b` on device `c`, held at the share `q`, with contents `X`. -/
def slotPt (b : Bool) (s : Fin 2) (q : PosShare TreeShare) (c : Dev nD) (X : S1x256x4096.Idx → Elt F .f32) : sProp 𝕄 :=
  (slotM b s).view.loc (c : Thread nD τ) ↦[(slotM b s).view.set]{q} fillB b X

/-- The same slot held whole at any contents. -/
def slotAny (b : Bool) (s : Fin 2) (c : Dev nD) : sProp 𝕄 :=
  Release.slot ((slotM b s).view.loc (c : Thread nD τ)) (slotM b s).view.set

omit [FloatOps F] in
/-- A slot with contents can be stored in a cell, -/
instance slotPt_storable (b : Bool) (s : Fin 2) (q) (c : Dev nD) (X) : BI.Storable (upEmb : UEmb _ 𝕄) (slotPt (F := F) b s q c X) := by
  unfold slotPt; infer_instance
omit [FloatOps F] in
/-- and so can a slot with some contents. -/
instance slotAny_storable (b : Bool) (s : Fin 2) (c : Dev nD) : BI.Storable (upEmb : UEmb _ 𝕄) (slotAny (F := F) b s c) := by
  unfold slotAny; infer_instance

omit [FloatOps F] in
/-- A slot with known contents is a slot with some. -/
theorem slotPt_any (b : Bool) (s : Fin 2) (c : Dev nD) (X) : slotPt (F := F) b s fullShare c X ⊢ slotAny b s c := by
  unfold slotPt slotAny Release.slot
  iintro H; iexists (fillB b X); iexact H

/-- A slot is not empty, so held whole it is held once. -/
theorem slot_nonempty (b : Bool) (s : Fin 2) : (slotM b s).view.set.Nonempty := by
  rw [slotM_set]
  exact ⟨(slotV b s).emb (fun a => ⟨0, by revert a; decide⟩), View.emb_mem_set _ _⟩
omit [FloatOps F] in
/-- Nobody holds a slot twice. -/
theorem slotAny_twice (b : Bool) (s : Fin 2) (c : Dev nD) : iprop(slotAny (F := F) b s c ∗ slotAny b s c) ⊢ (False : sProp 𝕄) :=
  Release.slot_slot_false (slot_nonempty b s)

omit [FloatOps F] in
/-- A share of a slot is its two halves. -/
theorem slotPt_halves (b : Bool) (s : Fin 2) (c : Dev nD) (X) :
    slotPt (F := F) b s fullShare c X ⊣⊢ iprop(slotPt b s fullShare.left c X ∗ slotPt b s fullShare.right c X) :=
  pointsTo_share (PosShare.mem_left_op_right fullShare)

omit [FloatOps F] in
/-- What a copy from slot `s` leaves in slot `s'` of the same lane elsewhere: the source's contents. -/
theorem slot_landed (b : Bool) (s s' : Fin 2) (c : Dev nD) (X : S1x256x4096.Idx → Elt F .f32) (fd : (slotM b s').view.ty.Contents (Elt F)) :
    ((slotM b s').view.loc (c : Thread nD τ) ↦[(slotM b s').view.set]{fullShare}
        ((slotM b s').view.write (Elt F) fd ((slotM b s).view.read (Elt F) (fillB b X)) Finset.univ) : sProp 𝕄)
      = slotPt b s' fullShare c X := by
  unfold slotPt
  refine pointsTo_congr fun i hi => ?_
  obtain ⟨x, -, rfl⟩ := Finset.mem_map.mp hi
  refine View.eq_of_read_eq ?_
  rw [View.read_write_univ, slotM_fill, slotM_fill]

omit [FloatOps F] in
/-- What a store to slot `s` leaves there. -/
theorem slot_stored (b : Bool) (s : Fin 2) (c : Dev nD) (X : S1x256x4096.Idx → Elt F .f32) (fd : (slotV b s).ty.Contents (Elt F)) :
    ((slotV b s).loc (c : Thread nD τ) ↦[(slotM b s).view.set]{fullShare} ((slotV b s).write (Elt F) fd X Finset.univ) : sProp 𝕄)
      = slotPt b s fullShare c X := by
  unfold slotPt
  refine pointsTo_congr fun i hi => ?_
  rw [slotM_set] at hi
  obtain ⟨x, -, rfl⟩ := Finset.mem_map.mp hi
  refine View.eq_of_read_eq (v := slotV b s) ?_
  rw [View.read_write_univ, slotV_fill]

/-! ## A buffer is its two slots -/

/-- The two slots of a double buffer are apart, -/
theorem slots_disjoint (b : Bool) : Disjoint (slotV b 0).set (slotV b 1).set :=
  View.disjoint_slice (Finset.disjoint_left.mpr fun i h0 h1 => by
    rw [← Rect.map_emb_univ] at h0 h1
    obtain ⟨x, -, hx⟩ := Finset.mem_map.mp h0
    obtain ⟨y, -, hy⟩ := Finset.mem_map.mp h1
    have e := congrArg (fun j : S2x256x4096.Idx => (j 0).val) (hx.trans hy.symm)
    have hx0 : (x 0).val < 1 := (x 0).isLt
    replace e : 0 + 1 * (x 0).val = 1 + 1 * (y 0).val := e
    omega)

/-- they cover its index type, -/
theorem slots_cover : (slotR 0).set ∪ (slotR 1).set = (Finset.univ : Finset S2x256x4096.Idx) := by
  refine Finset.eq_univ_iff_forall.mpr fun i => ?_
  have hi : (i 0).val < 2 := (i 0).isLt
  rw [Finset.mem_union, ← Rect.map_emb_univ, ← Rect.map_emb_univ]
  have mk : ∀ s : Fin 2, s.val = (i 0).val → i ∈ Finset.map (slotR s).emb Finset.univ := fun s hs =>
    Finset.mem_map.mpr ⟨low i, Finset.mem_univ _, Shape.idx3_ext (by show s.val + 1 * 0 = _; omega)
      (by show 0 + 1 * (i 1).val = _; omega) (by show 0 + 1 * (i 2).val = _; omega)⟩
  rcases (by omega : (i 0).val = 0 ∨ (i 0).val = 1) with h | h
  · exact .inl (mk 0 h.symm)
  · exact .inr (mk 1 h.symm)

/-- Lane `b`'s buffer, as the launch names it. -/
def scr : Bool → Ref sig .tc
  | false => cc0_scratch0
  | true => cc0_scratch1

/-- and so the buffer. -/
theorem slots_union (b : Bool) : (slotV b 0).set ∪ (slotV b 1).set = (bufM b).view.set := by
  show (Finset.map _ _) ∪ (Finset.map _ _) = _
  rw [← View.set, ← View.set, View.set_slice, View.set_slice, ← Finset.map_union, slots_cover]; rfl

omit [FloatOps F] in
/-- The whole buffer at any contents gives its two slots, -/
theorem buf_split (b : Bool) (c : Dev nD) :
    (iprop(∃ f : Buf (Elt F) ((c : Thread nD τ).loc (scr b)), ((c : Thread nD τ).loc (scr b)) ↦{fullShare} f) : sProp 𝕄)
      ⊢ iprop(slotAny b 0 c ∗ slotAny b 1 c) := by
  have h : ∀ f : Buf (Elt F) ((bufM b).view.loc (c : Thread nD τ)),
      ((bufM b).view.loc (c : Thread nD τ) ↦[(bufM b).view.set]{fullShare} f : sProp 𝕄) ⊢ iprop(slotAny b 0 c ∗ slotAny b 1 c) := fun f => by
    rw [← slots_union]
    unfold slotAny Release.slot
    rw [slotM_set, slotM_set]
    refine (pointsTo_union (slots_disjoint b)).1.trans ?_
    iintro ⟨H0, H1⟩
    isplitl [H0]
    · iexists f; iexact H0
    · iexists f; iexact H1
  iintro ⟨%f, H⟩
  cases b
  · iapply (h f); iapply (Entails.of_eq (show _ = _ by rw [show (bufM false).view.set = Finset.univ from View.set_whole _])); iexact H
  · iapply (h f); iapply (Entails.of_eq (show _ = _ by rw [show (bufM true).view.set = Finset.univ from View.set_whole _])); iexact H

omit [FloatOps F] in
/-- and they give it back. -/
theorem buf_join (b : Bool) (c : Dev nD) :
    iprop(slotAny b 0 c ∗ slotAny b 1 c)
      ⊢ (iprop(∃ f : Buf (Elt F) ((c : Thread nD τ).loc (scr b)), ((c : Thread nD τ).loc (scr b)) ↦{fullShare} f) : sProp 𝕄) := by
  have h : iprop(slotAny b 0 c ∗ slotAny b 1 c)
      ⊢ (iprop(∃ f : Buf (Elt F) ((bufM b).view.loc (c : Thread nD τ)), ((bufM b).view.loc (c : Thread nD τ) ↦[(bufM b).view.set]{fullShare} f)) : sProp 𝕄) := by
    rw [← slots_union]
    unfold slotAny Release.slot
    rw [slotM_set, slotM_set]
    iintro ⟨⟨%f, H0⟩, ⟨%g, H1⟩⟩
    iexists _
    iapply (pointsTo_join (slots_disjoint b))
    isplitl [H0]
    · iexact H0
    · iexact H1
  refine h.trans ?_
  cases b
  · rw [show (bufM false).view.set = Finset.univ from View.set_whole _]; exact BI.Entails.refl _
  · rw [show (bufM true).view.set = Finset.univ from View.set_whole _]; exact BI.Entails.refl _

end Cert.RingProof

end
-- ==== Proof.Protocol.lean ====
/-
The protocol

Eight devices stand in a ring. Each runs two lanes: lane `false` passes the top half of a block of `x` to the right
neighbour, lane `true` the bottom half to the left. Lane `b` of device `c` copies at hop `h = 0 … 6` from its slot `h % 2`
into slot `(h + 1) % 2` of `tgt b c`; `org b c` is whose copies land on `c`.

Each device's semaphores, by lane `b`:

* barrier: `tgt b c` signals one unit on entering, having released its landing slot for hop 0; the device waits for both;
* send cell `s`: the device's own copies of the hops `h` with `h % 2 = s` add the copy's credit when they have read the
  slot, and hand back the half share of it; the device waits once a hop;
* receive cell `s`: the copies of `org b c` at the hops `h` with `(h + 1) % 2 = s` add the copy's credit when they land,
  and hand over the slot with its contents: the half block that `c` holds at hop `h + 1`; the device waits once a hop;
* credit cell: after its own send of hop `j ≤ 5` has been read, the device `tgt b c` releases that slot as the landing slot
  of hop `j + 1` and signals one unit; the device waits for one unit before each of the hops `1 … 6`. The units may run
  ahead of the waits, so all six belong to one round, and the unit of hop `j` carries all the releases up to `j`.

A release is a fact about a key (device, lane, hop) of the released slots, so it can be handed on without being used up.
-/
module

public import proofs.«01_k».proof.Proof.Slots

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The cells -/

/-- The kinds of cell that the protocol uses on each device. -/
inductive Kd where
  | bar
  | cr (b : Bool)
  | snd (b : Bool) (s : Fin 2)
  | rcv (b : Bool) (s : Fin 2)
  deriving DecidableEq

/-- All of them. -/
def allKd : List Kd := [.bar, .cr false, .cr true, .snd false 0, .snd false 1, .snd true 0, .snd true 1,
  .rcv false 0, .rcv false 1, .rcv true 0, .rcv true 1]
/-- No kind is listed twice, -/
theorem allKd_nodup : allKd.Nodup := by decide
/-- and none is missing. -/
theorem mem_allKd (k : Kd) : k ∈ allKd := by
  cases k with
  | bar => decide
  | cr b => revert b; decide
  | snd b s => revert b s; decide
  | rcv b s => revert b s; decide
instance : Fintype Kd := ⟨allKd.toFinset, fun k => List.mem_toFinset.mpr (mem_allKd k)⟩

/-- The semaphores of the copies. -/
def sndS : Bool → Fin 2 → DmaSem sig
  | false, 0 => 3 | false, 1 => 4 | true, 0 => 7 | true, 1 => 8
/-- The receive semaphores. -/
def rcvS : Bool → Fin 2 → DmaSem sig
  | false, 0 => 5 | false, 1 => 6 | true, 0 => 9 | true, 1 => 10
/-- The credit semaphores. -/
def crS : Bool → Sem sig
  | false => 0 | true => 1

/-- Which semaphore a kind is. -/
def locOf : Kd → SemLoc sig
  | .bar => .reg barrier0
  | .cr b => .reg (crS b)
  | .snd b s => .dma (sndS b s)
  | .rcv b s => .dma (rcvS b s)

/-- Different kinds are different semaphores, -/
theorem locOf_injective : Function.Injective locOf := by
  have h : ∀ k k' : Kd, locOf k = locOf k' → k = k' := by decide
  exact fun k k' => h k k'

/-- The cell of kind `k` on device `c`. -/
abbrev cell (c : Dev nD) (k : Kd) : GSem nD τ sig := ((c : Thread nD τ), locOf k)

/-- Which kind a semaphore is, if it is one. -/
def kindOf (sm : SemLoc sig) : Option Kd := open Classical in if h : ∃ k, locOf k = sm then some h.choose else none
/-- so a semaphore tells its kind, -/
theorem kindOf_loc (k : Kd) : kindOf (locOf k) = some k := by
  unfold kindOf
  have h : ∃ k', locOf k' = locOf k := ⟨k, rfl⟩
  rw [dif_pos h]; exact congrArg some (locOf_injective h.choose_spec)

/-- and a cell its device and its kind. -/
theorem cell_injective : Function.Injective fun p : Dev nD × Kd => cell p.1 p.2 := fun p q h => by
  have h1 : p.1 = q.1 := congrArg (fun g : GSem nD τ sig => g.1.1) h
  exact Prod.ext h1 (locOf_injective (congrArg Prod.snd h))

/-- What one copy credits. -/
def N : ℕ := (slotM false 0).view.dmaCredit
/-- Every slot's copy adds the same credit, -/
theorem N_eq (b : Bool) (s : Fin 2) : (slotM b s).view.dmaCredit = N := by cases b <;> rfl
/-- which is not nothing. -/
theorem N_pos : 0 < N := View.dmaCredit_pos _ (by decide)

/-! ## The rounds -/

/-- What a copy of hop `h` moves: the half block in slot `h % 2`, by lane, for the blocks `X` of the devices. -/
def chunk (X : Dev nD → Vec F S512x4096 .f32) (b : Bool) (h : ℕ) (c : Dev nD) : Vec F S1x256x4096 .f32 :=
  if b then k0_pay2 (((Memref.whole cc0_stg0_0 : Memref sig .tc .vmem S512x4096 .f32).access
      (Rect.unit (s := S512x4096) ![256, 0] S256x4096.size inb_S512x4096_S256x4096_256_0)).read (Elt F) (X (home b h c)))
  else k0_pay1 (((Memref.whole cc0_stg0_0 : Memref sig .tc .vmem S512x4096 .f32).access
      (Rect.unit (s := S512x4096) ![0, 0] S256x4096.size inb_S512x4096_S256x4096_0_0)).read (Elt F) (X (home b h c)))

/-- What a device holds at a hop is what its target holds at the next. -/
theorem chunk_tgt (X : Dev nD → Vec F S512x4096 .f32) (b : Bool) (h : ℕ) (c : Dev nD) : chunk X b (h + 1) (tgt b c) = chunk X b h c := by
  unfold chunk; rw [home_tgt]

/-- Device `d` has released the landing slot of hop `h`, and its receive cell stands at that hop's round. -/
def grantOf (b : Bool) (d : Dev nD) (h : ℕ) : sProp 𝕄 :=
  iprop(Release.released ES ((d, b, h) : Key) 1 ∗ reached ER (cell d (.rcv b (sl (h + 1)))) (h / 2))

omit [FloatOps F] in
/-- The right to write a landing slot can be handed on. -/
instance grantOf_persistent (b : Bool) (d : Dev nD) (h : ℕ) : BI.Persistent (grantOf (F := F) b d h) := by unfold grantOf; infer_instance
omit [FloatOps F] in
/-- It can be stored in a cell. -/
instance grantOf_storable (b : Bool) (d : Dev nD) (h : ℕ) : BI.Storable (upEmb : UEmb _ 𝕄) (grantOf (F := F) b d h) := by unfold grantOf; infer_instance

/-- The duties of a round. -/
def dutiesK : Kd → ℕ → Finset ℕ
  | .bar, r => if r = 0 then Finset.range 2 else ∅
  | .cr _, r => if r = 0 then Finset.range 6 else ∅
  | .snd _ s, r => if 2 * r + s.val < 7 then {0} else ∅
  | .rcv _ s, r => if 2 * r + 1 < 7 + s.val then {0} else ∅

/-- What one duty adds. -/
def amountK : Kd → ℕ
  | .bar => 1
  | .cr _ => 1
  | .snd _ _ => N
  | .rcv _ _ => N

/-- What one duty hands to the owner `c`. -/
def payK (X : Dev nD → Vec F S512x4096 .f32) (c : Dev nD) : Kd → ℕ → ℕ → sProp 𝕄
  | .bar, _, d => if d = 0 then grantOf false (tgt false c) 0 else grantOf true (tgt true c) 0
  | .cr b, _, j => bigSep (Finset.range (j + 1)) fun i => grantOf b (tgt b c) (i + 1)
  | .snd b s, r, _ => slotPt b s fullShare.left c (chunk X b (2 * r + s.val) c)
  | .rcv b s, r, _ => slotPt b s fullShare c (chunk X b (2 * r + 2 - s.val) c)

/-- So can every unit's payload. -/
instance payK_storable (X : Dev nD → Vec F S512x4096 .f32) (c : Dev nD) (k : Kd) (r d : ℕ) : BI.Storable (upEmb : UEmb _ 𝕄) (payK X c k r d) := by
  cases k
  case bar =>
    show BI.Storable upEmb (if d = 0 then grantOf false (tgt false c) 0 else grantOf true (tgt true c) 0)
    split <;> infer_instance
  all_goals (unfold payK; infer_instance)

/-- The schedule of the protocol. -/
def Rd (X : Dev nD → Vec F S512x4096 .f32) : Rounds.Schedule (GSem nD τ sig) ℕ 𝕄 where
  duties g r := if g.1.2 = .tc then (match kindOf g.2 with | some k => dutiesK k r | none => ∅) else ∅
  unitless _ := False
  amount g _ _ := match kindOf g.2 with | some k => amountK k | none => 1
  payload g r d := match kindOf g.2 with | some k => payK X g.1.1 k r d | none => iprop(emp)
  amount_pos g _ _ _ := by
    cases kindOf g.2 with
    | none => exact Nat.one_pos
    | some k => cases k <;> first | exact Nat.one_pos | exact N_pos

/-- The payloads of the rounds can be stored. -/
instance Rd_storable (X : Dev nD → Vec F S512x4096 .f32) (g : GSem nD τ sig) (r d : ℕ) : BI.Storable (upEmb : UEmb _ 𝕄) ((Rd (F := F) X).payload g r d) := by
  show BI.Storable upEmb (match kindOf g.2 with | some k => payK X g.1.1 k r d | none => iprop(emp))
  cases kindOf g.2 <;> dsimp only <;> infer_instance

section
variable (X : Dev nD → Vec F S512x4096 .f32) (c : Dev nD) (k : Kd) (r d : ℕ)
/-- The rounds at a cell, read by its kind: who owes a unit, -/
theorem Rd_duties : (Rd X).duties (cell c k) r = dutiesK k r := by dsimp only [Rd]; rw [if_pos rfl, kindOf_loc]
/-- how much, -/
theorem Rd_amount : (Rd X).amount (cell c k) r d = amountK k := by dsimp only [Rd]; rw [kindOf_loc]
/-- with what payload, -/
theorem Rd_payload : (Rd X).payload (cell c k) r d = payK X c k r d := by dsimp only [Rd]; rw [kindOf_loc]
/-- and how much in all. -/
theorem Rd_expect : (Rd X).expect (cell c k) r = (dutiesK k r).card * amountK k := by
  unfold Schedule.expect Schedule.amountOf
  rw [Rd_duties, Finset.sum_congr rfl fun d _ => Rd_amount X c k r d, Finset.sum_const, smul_eq_mul]
end

/-! The rounds of hop `h`. -/
theorem sl_val (h : ℕ) : (sl h).val = h % 2 := rfl
/-- The send cell of hop `h` expects one unit in its round `h / 2`; -/
theorem duties_snd (b : Bool) {h : ℕ} (hh : h < 7) : dutiesK (.snd b (sl h)) (h / 2) = {0} := if_pos (by rw [sl_val]; omega)
/-- so does the receive cell; -/
theorem duties_rcv (b : Bool) {h : ℕ} (hh : h < 7) : dutiesK (.rcv b (sl (h + 1))) (h / 2) = {0} := if_pos (by rw [sl_val]; omega)
/-- the credit cell expects six units in its one round. -/
theorem duties_cr (b : Bool) : dutiesK (.cr b) 0 = Finset.range 6 := rfl
/-- A send wait hands back half of the slot with its contents; -/
theorem pay_snd (X : Dev nD → Vec F S512x4096 .f32) (c : Dev nD) (b : Bool) (h d : ℕ) :
    payK X c (.snd b (sl h)) (h / 2) d = slotPt b (sl h) fullShare.left c (chunk X b h c) := by
  show slotPt _ _ _ _ (chunk X b (2 * (h / 2) + (sl h).val) c) = _
  rw [show 2 * (h / 2) + (sl h).val = h by rw [sl_val]; omega]
/-- a landing hands over the target's slot with the next contents. -/
theorem pay_rcv (X : Dev nD → Vec F S512x4096 .f32) (c : Dev nD) (b : Bool) (h d : ℕ) :
    payK X c (.rcv b (sl (h + 1))) (h / 2) d = slotPt b (sl (h + 1)) fullShare c (chunk X b (h + 1) c) := by
  show slotPt _ _ _ _ (chunk X b (2 * (h / 2) + 2 - (sl (h + 1)).val) c) = _
  rw [show 2 * (h / 2) + 2 - (sl (h + 1)).val = h + 1 by rw [sl_val]; omega]
/-- After hop 6 no round has a duty. -/
theorem duties_end (k : Kd) (r : ℕ) (h : 4 ≤ r ∨ (1 ≤ r ∧ (k = .bar ∨ ∃ b, k = .cr b)) ∨ (3 ≤ r ∧ ∃ b, k = .snd b 1 ∨ k = .rcv b 0)) :
    dutiesK k r = ∅ := by
  cases k with
  | bar => exact if_neg (by omega)
  | cr b => exact if_neg (by omega)
  | snd b s =>
    refine if_neg fun hlt => ?_
    rcases h with h | ⟨_, h | ⟨_, h⟩⟩ | ⟨h, b', h' | h'⟩
    · omega
    · cases h
    · cases h
    · cases h'; simp only [Fin.val_one] at hlt; omega
    · cases h'
  | rcv b s =>
    have hs := s.isLt
    refine if_neg fun hlt => ?_
    rcases h with h | ⟨_, h | ⟨_, h⟩⟩ | ⟨h, b', h' | h'⟩
    · omega
    · cases h
    · cases h
    · cases h'
    · cases h'; simp only [Fin.val_zero] at hlt; omega

/-! ## Levels and what is owed -/

/-- A tally's index is its level: staging and the send cells 0, the barrier 1, the landing of hop `h` `2 h + 2`, the credit of
    hop `j` `2 j + 3`. -/
def lv (_ : GSem nD τ sig) (i : ℕ) : ℕ := i
/-- The levels in use on each thread: 32 on a device's main core. -/
def L (g : GSem nD τ sig) : Finset ℕ := if g.1.2 = .tc then Finset.range 32 else ∅

/-- No level is in use on the others, -/
theorem L_of_ne (g : GSem nD τ sig) (h : g.1.2 ≠ .tc) : L g = ∅ := if_neg h
/-- and all are on the main core. -/
theorem L_tc (c : Dev nD) (sm : SemLoc sig) : L ((c : Thread nD τ), sm) = Finset.range 32 := if_pos rfl

/-- All that is owed is owed to TensorCores at levels above `n`. -/
def Above (n : ℕ) (O : CellTallies nD τ sig ℕ) : Prop := ∀ g i, 0 < O g i → g.1.2 = .tc ∧ n < i ∧ i < 32

/-- Debts above a level add up, -/
theorem Above.add {n : ℕ} {O O' : CellTallies nD τ sig ℕ} (h : Above n O) (h' : Above n O') : Above n (O + O') :=
  fun g i hg => (Pipeline.add_pos_cases hg).elim (h g i) (h' g i)
/-- no debt is above every level, -/
theorem Above.zero (n : ℕ) : Above n 0 := fun g i hg => absurd hg (by simp)
/-- a lower level will do, -/
theorem Above.mono {n n' : ℕ} (hn : n' ≤ n) {O : CellTallies nD τ sig ℕ} (h : Above n O) : Above n' O :=
  fun g i hg => let ⟨a, b, d⟩ := h g i hg; ⟨a, by omega, d⟩
/-- a single debt is above every lower level, -/
theorem Above.tally {n i : ℕ} (c : Dev nD) (sm : SemLoc sig) (k : ℕ) (h : n < i) (h' : i < 32) : Above n (tallyAt ((c : Thread nD τ), sm) i k) :=
  fun g j hg => by obtain ⟨rfl, rfl⟩ := Pipeline.tallyAt_pos hg; exact ⟨rfl, h, h'⟩
/-- and so is a sum of such. -/
theorem Above.sum {n : ℕ} {s : Finset ℕ} {D : ℕ → CellTallies nD τ sig ℕ} (h : ∀ x ∈ s, Above n (D x)) : Above n (∑ x ∈ s, D x) :=
  fun g i hg => let ⟨x, hx, hp⟩ := Pipeline.sum_pos_exists hg; h x hx g i hp

omit [FloatOps F] in
/-- A wait at level `n` is allowed to a device whose debts are all above `n`. -/
theorem mayWait (c : Dev nD) (sm : SemLoc sig) {n : ℕ} (hn : n < 32) {O : CellTallies nD τ sig ℕ} (h : Above n O) :
    (levAts L lv : sProp 𝕄) ⊢ MayWait (c : Thread nD τ) sm n O :=
  Pipeline.mayWait_of_levAts (by rw [L_tc]; exact Finset.mem_range.mpr hn) fun g i hg => by
    obtain ⟨htc, h1, h2⟩ := h g i hg
    exact ⟨by rw [L, if_pos htc]; exact Finset.mem_range.mpr h2, h1⟩

/-- What lane `b` of `c` owes by its copy of hop `j`, -/
def Ocp (b : Bool) (c : Dev nD) (j : ℕ) : CellTallies nD τ sig ℕ := tallyAt (cell (tgt b c) (.rcv b (sl (j + 1)))) (2 * j + 2) N
/-- and by its credit of hop `j`. -/
def Ocr (b : Bool) (c : Dev nD) (j : ℕ) : CellTallies nD τ sig ℕ := tallyAt (cell (org b c) (.cr b)) (2 * j + 3) 1

/-- What lane `b` of `c` owes while its copies from `p` and its credits from `r` on are to come. -/
def Lane (b : Bool) (c : Dev nD) (p r : ℕ) : CellTallies nD τ sig ℕ :=
  (∑ j ∈ Finset.Ico r 6, Ocr b c j) + ∑ j ∈ Finset.Ico p 7, Ocp b c j

/-- A stock from `p` on is its first and the rest. -/
theorem Ico_peel {p n : ℕ} (h : p < n) : Finset.Ico p n = insert p (Finset.Ico (p + 1) n) := by
  ext j; rw [Finset.mem_insert, Finset.mem_Ico, Finset.mem_Ico]; omega
/-- The first of a range is not in its rest. -/
theorem notMem_peel (p n : ℕ) : p ∉ Finset.Ico (p + 1) n := fun h => by rw [Finset.mem_Ico] at h; omega

/-- A copy pays the first of the copies that a lane owes; -/
theorem Lane_send (b : Bool) (c : Dev nD) {p : ℕ} (r : ℕ) (hp : p < 7) : Lane b c p r = Lane b c (p + 1) r + Ocp b c p := by
  unfold Lane; rw [Ico_peel hp, Finset.sum_insert (notMem_peel _ _), add_assoc, add_comm (Ocp b c p)]
/-- a credit pays the first of the credits. -/
theorem Lane_credit (b : Bool) (c : Dev nD) (p : ℕ) {r : ℕ} (hr : r < 6) : Lane b c p r = Lane b c p (r + 1) + Ocr b c r := by
  unfold Lane; rw [Ico_peel hr, Finset.sum_insert (notMem_peel _ _), add_assoc, add_comm (Ocr b c r)]
/-- After seven copies and six credits a lane owes nothing. -/
theorem Lane_end (b : Bool) (c : Dev nD) : Lane b c 7 6 = 0 := by unfold Lane; simp

/-- What a lane still owes lies above the hops behind it. -/
theorem Lane_above (b : Bool) (c : Dev nD) {n p r : ℕ} (hp : n < 2 * p + 2) (hr : n < 2 * r + 3) : Above n (Lane b c p r) :=
  Above.add (Above.sum fun j hj => by rw [Finset.mem_Ico] at hj; exact Above.tally _ _ _ (by omega) (by omega))
    (Above.sum fun j hj => by rw [Finset.mem_Ico] at hj; exact Above.tally _ _ _ (by omega) (by omega))

/-- What lane `b` of `c` owes to the barrier. -/
def Obar (b : Bool) (c : Dev nD) : CellTallies nD τ sig ℕ := tallyAt (cell (org b c) .bar) 1 1

/-- What device `c` owes at launch. -/
def O₀ (c : Dev nD) : CellTallies nD τ sig ℕ := Lane false c 0 0 + Lane true c 0 0 + Obar true c + Obar false c

/-- All debts at launch lie above level 0. -/
theorem O₀_above (c : Dev nD) : Above 0 (O₀ c) :=
  Above.add (Above.add (Above.add (Lane_above _ _ (by omega) (by omega)) (Lane_above _ _ (by omega) (by omega)))
    (Above.tally _ _ _ (by omega) (by omega))) (Above.tally _ _ _ (by omega) (by omega))

/-! ## What every device knows -/

/-- The keys of the released slots. -/
def keys : Finset Key := Finset.univ ×ˢ Finset.univ ×ˢ Finset.range 7
/-- Every copy's landing slot has a key. -/
theorem mem_keys (c : Dev nD) (b : Bool) {h : ℕ} (hh : h < 7) : (c, b, h) ∈ keys :=
  Finset.mem_product.mpr ⟨Finset.mem_univ _, Finset.mem_product.mpr ⟨Finset.mem_univ _, Finset.mem_range.mpr hh⟩⟩

/-- The slot that a key names. -/
def keySlot (k : Key) : sProp 𝕄 := slotAny k.2.1 (sl (k.2.2 + 1)) k.1
omit [FloatOps F] in
/-- A keyed slot can be stored. -/
instance keySlot_storable (k : Key) : BI.Storable (upEmb : UEmb _ 𝕄) (keySlot (F := F) k) := by unfold keySlot; infer_instance

/-- The invariants of all the cells and keys, round 0 of every cell, the levels. -/
def Rec (X : Dev nD → Vec F S512x4096 .f32) (κ : Dev nD × Kd → ℕ) (ιs : Key → ℕ) : sProp 𝕄 :=
  iprop((bigSep Finset.univ fun p : Dev nD × Kd => cellInv ER (Rd X) (κ p) (cell p.1 p.2))
    ∗ (bigSep Finset.univ fun p : Dev nD × Kd => reached ER (cell p.1 p.2) 0)
    ∗ (bigSep keys fun k => Release.slotInv ES (ιs k) k (keySlot k))
    ∗ levAts L lv)

section
variable {X : Dev nD → Vec F S512x4096 .f32} {κ : Dev nD × Kd → ℕ} {ιs : Key → ℕ}
/-- The record can be used again and again. -/
instance Rec_persistent : BI.Persistent (Rec X κ ιs) := by unfold Rec; infer_instance
/-- It holds every cell's invariant, -/
theorem Rec_cell (c : Dev nD) (k : Kd) : Rec X κ ιs ⊢ cellInv ER (Rd X) (κ (c, k)) (cell c k) := by
  unfold Rec
  exact sep_elim_left.trans (bigSep_elim (Φ := fun p : Dev nD × Kd => cellInv ER (Rd X) (κ p) (cell p.1 p.2)) (Finset.mem_univ (c, k)))
/-- the start of every cell, -/
theorem Rec_reached (c : Dev nD) (k : Kd) : Rec X κ ιs ⊢ reached ER (cell c k) 0 := by
  unfold Rec
  exact (sep_elim_right).trans ((sep_elim_left).trans (bigSep_elim (Φ := fun p : Dev nD × Kd => reached ER (cell p.1 p.2) 0) (Finset.mem_univ (c, k))))
/-- the invariant of every landing slot, -/
theorem Rec_key (c : Dev nD) (b : Bool) {h : ℕ} (hh : h < 7) :
    Rec X κ ιs ⊢ Release.slotInv ES (ιs (c, b, h)) ((c, b, h) : Key) (slotAny b (sl (h + 1)) c) := by
  unfold Rec
  exact (sep_elim_right).trans ((sep_elim_right).trans ((sep_elim_left).trans (bigSep_elim (Φ := fun k : Key => Release.slotInv ES (ιs k) k (keySlot k)) (mem_keys c b hh))))
/-- and the levels. -/
theorem Rec_lev : Rec X κ ιs ⊢ levAts L lv := by
  unfold Rec
  exact (sep_elim_right).trans ((sep_elim_right).trans sep_elim_right)
end

end Cert.RingProof

end
-- ==== Proof.Steps.lean ====
/-
One lane's steps

The state of a lane between two operations, and one rule per operation of the protocol: the copy, the wait for its read,
the credit, the wait for the landing, the wait for a credit. Each at a symbolic lane, hop and device.
-/
module

public import proofs.«01_k».proof.Proof.Protocol

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- No loop needs a measure. -/
def 𝒱₀ : Variants := Variants.none
/-- The body's programs. -/
abbrev Pr (F : FTy → Type) [FloatOps F] : Type _ := Prog (TpuEff nD τ sig (Elt F) Λ₀ .tc) PUnit.{1}

/-- The program's triple on device `c`. -/
abbrev run (c : Dev nD) (p : Pr F) (Q : PUnit.{1} → sProp 𝕄) : sProp 𝕄 :=
  wp frame (wpE (defs₀ (F := F)) 𝒱₀ (c : Thread nD τ) none) Set.univ p Q

/-! ## Stocks -/

/-- A stock of resources for the hops from `p` below `n`. -/
def stock (Φ : ℕ → sProp 𝕄) (p n : ℕ) : sProp 𝕄 := bigSep (Finset.Ico p n) Φ
omit [FloatOps F] in
/-- The first of a stock is taken, -/
theorem stock_peel (Φ : ℕ → sProp 𝕄) {p n : ℕ} (h : p < n) : stock Φ p n ⊢ iprop(Φ p ∗ stock Φ (p + 1) n) := by
  unfold stock; rw [Ico_peel h]; exact Entails.of_eq (bigSep_insert (notMem_peel p n))

omit [FloatOps F] in
/-- the next is added to what is used, -/
theorem range_snoc (Φ : ℕ → sProp 𝕄) (h : ℕ) : iprop(Φ h ∗ bigSep (Finset.range h) Φ) ⊢ bigSep (Finset.range (h + 1)) Φ := by
  rw [Finset.range_add_one]; exact Entails.of_eq (bigSep_insert Finset.notMem_range_self).symm
omit [FloatOps F] in
/-- and a part is joined with the rest. -/
theorem rest_join (Φ : ℕ → sProp 𝕄) {S T : Finset ℕ} (h : T ⊆ S) : iprop(bigSep T Φ ∗ bigSep (S \ T) Φ) ⊢ bigSep S Φ :=
  Entails.of_eq (bigSep_sdiff_split h).symm

/-- A cell's owner at the start of round `R`. -/
def cellAt (c : Dev nD) (k : Kd) (R : ℕ) : sProp 𝕄 := iprop(atPos ER (cell c k) R ∅ 0 ∗ reached ER (cell c k) R)

/-- Owing `O`, whatever has been waited for. -/
def due (c : Dev nD) (O : CellTallies nD τ sig ℕ) : sProp 𝕄 := iprop(∃ W, owes (c : Thread nD τ) O W)

/-- What the copy of hop `j` takes besides the slots, -/
def sendTok (b : Bool) (c : Dev nD) (j : ℕ) : sProp 𝕄 :=
  iprop(dutyTok ER (cell c (.snd b (sl j))) (j / 2) 0 ∗ dutyTok ER (cell (tgt b c) (.rcv b (sl (j + 1)))) (j / 2) 0
    ∗ Release.writeTok ES ((tgt b c, b, j) : Key) 1)
/-- the credit of hop `j`, -/
def credTok (b : Bool) (c : Dev nD) (j : ℕ) : sProp 𝕄 :=
  iprop(dutyTok ER (cell (org b c) (.cr b)) 0 j ∗ Release.readerAt ES ((c, b, j + 1) : Key) 0)
/-- the wait for the landing of hop `j`, -/
def rcvCred (b : Bool) (c : Dev nD) (j : ℕ) : sProp 𝕄 := cred (tallyAt (cell c (.rcv b (sl (j + 1)))) (2 * j + 2) N)
/-- and the wait for the credit of hop `j`. -/
def crCred (b : Bool) (c : Dev nD) (j : ℕ) : sProp 𝕄 := cred (tallyAt (cell c (.cr b)) (2 * j + 3) 1)

/-- What the credit of hop `j` hands to `c`: the releases of the hops up to `j + 1`. -/
def grants (b : Bool) (c : Dev nD) (j : ℕ) : sProp 𝕄 := bigSep (Finset.range (j + 1)) fun i => grantOf b (tgt b c) (i + 1)
omit [FloatOps F] in
/-- The credits' rights can be used again and again. -/
instance grants_persistent (b : Bool) (c : Dev nD) (j : ℕ) : BI.Persistent (grants (F := F) b c j) := by unfold grants; infer_instance

/-- The owner of the credit cell after `i` waits: the units may have come ahead. -/
def creditPos (b : Bool) (c : Dev nD) (i : ℕ) : sProp 𝕄 :=
  if i < 6 then iprop(∃ T : Finset ℕ, ⌜T ⊆ Finset.range 6⌝ ∗ atPos ER (cell c (.cr b)) 0 T i ∗ bigSep T fun j => grants b c j)
  else atPos ER (cell c (.cr b)) 1 ∅ 0

omit [FloatOps F] in
/-- Before the last credit wait the credit cell is in its one round; -/
theorem creditPos_lt (b : Bool) (c : Dev nD) {i : ℕ} (h : i < 6) : creditPos (F := F) b c i
    = iprop(∃ T : Finset ℕ, ⌜T ⊆ Finset.range 6⌝ ∗ atPos ER (cell c (.cr b)) 0 T i ∗ bigSep T fun j => grants b c j) := by
  unfold creditPos; exact if_pos h
omit [FloatOps F] in
/-- after it the round is over. -/
theorem creditPos_six (b : Bool) (c : Dev nD) : creditPos (F := F) b c 6 = atPos ER (cell c (.cr b)) 1 ∅ 0 := by
  unfold creditPos; exact if_neg (by decide)

/-- What lane `b` of `c` keeps: `s` sends have been read, `r` copies have landed, `g` credits have been given, `k` have been
    waited for, `p` copies have been issued. -/
def Keep (b : Bool) (c : Dev nD) (s r g k p : ℕ) : sProp 𝕄 :=
  iprop(cellAt c (.snd b (sl s)) (s / 2) ∗ cellAt c (.snd b (sl (s + 1))) ((s + 1) / 2)
    ∗ cellAt c (.rcv b (sl (r + 1))) (r / 2) ∗ cellAt c (.rcv b (sl (r + 2))) ((r + 1) / 2)
    ∗ creditPos b c k ∗ (bigSep (Finset.range g) fun i => grantOf b c (i + 1))
    ∗ stock (sendTok b c) p 7 ∗ stock (rcvCred b c) r 7 ∗ stock (credTok b c) g 6 ∗ stock (crCred b c) k 6)

variable (X : Dev nD → Vec F S512x4096 .f32)

/-- A slot with the half block of hop `h`. -/
def holds (b : Bool) (h : ℕ) (q : PosShare TreeShare) (c : Dev nD) : sProp 𝕄 := slotPt b (sl h) q c (chunk X b h c)

variable {X} {κ : Dev nD × Kd → ℕ} {ιs : Key → ℕ} {Q : PUnit.{1} → sProp (MT nD τ sig ℕ (Elt F) ℕ UU ℕ)}

/-! ## The operations -/

/-- The slots lie in the main core's memory. -/
theorem slot_isVmem (b : Bool) (s : Fin 2) : (slotM b s).view.ref.isScScratch = false := by cases b <;> rfl

/-- The copy of hop `h`, -/
abbrev sendOp (b : Bool) (h : ℕ) (c : Dev nD) (k : PUnit.{1} → Pr F) : Pr F :=
  .op (.enqueueDma (slotM b (sl h)) (.remote (Dev.tc (tgt b c) : Thread nD τ) (slotM b (sl (h + 1))) (.dma (sndS b (sl h))) (slot_isVmem b _))
    (.dma (rcvS b (sl (h + 1)))) ((View.wordExact_bits rfl).reshape _ _) ((View.wordExact_bits rfl).reshape _ _) ⟨⟨rfl, Or.inl rfl⟩, trivial⟩) k
/-- the wait for its read, -/
abbrev sendWaitOp (b : Bool) (h : ℕ) (k : PUnit.{1} → Pr F) : Pr F :=
  .op (.waitDma2 (sndS b (sl h)) (slotM b (sl (h + 1))) (slotM b (sl h)) ((View.wordExact_bits rfl).reshape _ _) ((View.wordExact_bits rfl).reshape _ _)) k
/-- the credit to the device whose copies land here, -/
abbrev creditOp (b : Bool) (c : Dev nD) (k : PUnit.{1} → Pr F) : Pr F := .op (.semSignal (org b c : Thread nD τ) (crS b) (1#32).toInt) k
/-- the wait for the landing, -/
abbrev recvWaitOp (b : Bool) (h : ℕ) (k : PUnit.{1} → Pr F) : Pr F :=
  .op (.waitDma2 (rcvS b (sl (h + 1))) (slotM b (sl h)) (slotM b (sl (h + 1))) ((View.wordExact_bits rfl).reshape _ _) ((View.wordExact_bits rfl).reshape _ _)) k
/-- and the wait for a credit. -/
abbrev creditWaitOp (b : Bool) (k : PUnit.{1} → Pr F) : Pr F := .op (.semWait (crS b) (1#32).toInt) k

set_option maxHeartbeats 800000 in
/-- A copy is started: its source is held by half until it has been read, the right to the landing slot is used. -/
theorem wp_send (b : Bool) (c : Dev nD) {h : ℕ} (hh : h < 7) (s r g k : ℕ) (O : CellTallies nD τ sig ℕ) (K : PUnit.{1} → Pr F) :
    iprop(Rec X κ ιs ∗ holds X b h fullShare c ∗ grantOf b (tgt b c) h ∗ Keep b c h r g k h ∗ due c (O + Ocp b c h))
      ⊢ iprop(((holds X b h fullShare.right c ∗ cred (tallyAt (cell c (.snd b (sl h))) 0 N) ∗ Keep b c h r g k (h + 1) ∗ due c O)
            -∗ run c (K ⟨⟩) Q)
          -∗ run c (sendOp b h c K) Q) := by
  unfold Keep due holds
  iintro ⟨#HR, Hs, #Hg, ⟨Hc0, Hc1, Hc2, Hc3, Hcp, Hf, Hst, Hst2, Hst3, Hst4⟩, ⟨%W, HO⟩⟩ Hk
  ihave Hst := (stock_peel (sendTok b c) hh) $$ Hst
  icases Hst with ⟨Ht, Hst⟩
  unfold sendTok
  icases Ht with ⟨Ht1, Ht2, Hw⟩
  unfold grantOf
  icases Hg with ⟨Hrel, Hrr⟩
  ihave Hi := (Rec_key (tgt b c) b hh) $$ HR
  imod (Release.slot_take (Es := Set.univ) ES (Set.mem_univ _) 1) $$ [Hi Hw] with Hd
  · isplitl [Hi]; · iexact Hi
    isplitr; · iexact Hrel
    iexact Hw
  unfold slotAny Release.slot
  icases Hd with ⟨%fd, Hd⟩
  ihave Hs := (slotPt_halves b (sl h) c (chunk X b h c)).1 $$ Hs
  icases Hs with ⟨HsL, HsR⟩
  unfold slotPt
  unfold cellAt
  icases Hc0 with ⟨Hat, #Hrs⟩
  iapply (Rounds.wp_send_pointsTo 𝒱₀ ER (Rd X) (c : Thread nD τ) none (κ₁ := κ (c, .snd b (sl h))) (κ₂ := κ (tgt b c, .rcv b (sl (h + 1))))
    (r₁ := h / 2) (r₂ := h / 2) (d₁ := 0) (d₂ := 0) (fd := fd) (sS := locOf (.snd b (sl h))) (sem := locOf (.rcv b (sl (h + 1))))
    (by rw [Rd_duties, duties_snd b hh]; exact Finset.mem_singleton_self _) (by rw [Rd_duties, duties_rcv b hh]; exact Finset.mem_singleton_self _)
    (2 * h + 2) 0 N (N_eq b _) (Rd_amount X c _ _ _) (Rd_amount X (tgt b c) _ _ _) O rfl (W := W)
    (by rw [Rd_payload, pay_snd]; unfold slotPt; exact BI.Entails.refl _)
    (by rw [Rd_payload, pay_rcv, chunk_tgt]; exact Entails.of_eq (slot_landed b _ _ _ _ _))) $$ [HsL Hd HO Ht1 Ht2]
  · isplitr; · iapply (Rec_cell c (.snd b (sl h))); iexact HR
    isplitr; · iapply (Rec_cell (tgt b c) (.rcv b (sl (h + 1)))); iexact HR
    isplitl [HsL]; · iexact HsL
    isplitl [Hd]; · iexact Hd
    isplitl [HO]; · iexact HO
    isplitl [Ht1]; · iexact Ht1
    isplitr; · iexact Hrs
    isplitl [Ht2]; · iexact Ht2
    iexact Hrr
  iintro ⟨Hc, HO⟩
  iapply Hk
  isplitl [HsR]; · iexact HsR
  isplitl [Hc]; · iexact Hc
  isplitr [HO]
  · isplitl [Hat]
    · isplitl; · iexact Hat
      iexact Hrs
    iframe
  · iexists W; iexact HO

set_option maxHeartbeats 800000 in
/-- The wait for the read of the copy of hop `h` gives the slot back whole. -/
theorem wp_sendWait (b : Bool) (c : Dev nD) {h : ℕ} (hh : h < 7) (r g k p : ℕ) {O : CellTallies nD τ sig ℕ} (hO : Above 0 O) (K : PUnit.{1} → Pr F) :
    iprop(Rec X κ ιs ∗ holds X b h fullShare.right c ∗ cred (tallyAt (cell c (.snd b (sl h))) 0 N) ∗ Keep b c h r g k p ∗ due c O)
      ⊢ iprop(((holds X b h fullShare c ∗ Keep b c (h + 1) r g k p ∗ due c O) -∗ run c (K ⟨⟩) Q)
          -∗ run c (sendWaitOp b h K) Q) := by
  unfold Keep due holds
  iintro ⟨#HR, Hs, Hc, ⟨Hc0, Hc1, Hrest⟩, ⟨%W, HO⟩⟩ Hk
  unfold cellAt
  icases Hc0 with ⟨Hat, -⟩
  iapply (Rounds.wp_wait_rest_token 𝒱₀ ER (Rd X) (c : Thread nD τ) none (κ := κ (c, .snd b (sl h))) (sm := locOf (.snd b (sl h)))
      (wpE_waitDma2_eq 𝒱₀ (c : Thread nD τ) none Set.univ) (Set.mem_univ _) 0 (O := O) (W := W) (R := h / 2) (m := 0) (T := ∅)
      (by rw [Rd_expect, duties_snd b hh, N_eq, Finset.card_singleton, Nat.one_mul, Nat.zero_add]; rfl)) $$ [Hc HO Hat]
  · isplitr; · iapply (Rec_cell c (.snd b (sl h))); iexact HR
    isplitl [Hc]; · rw [N_eq]; iexact Hc
    isplitl [HO]; · iexact HO
    isplitr; · iapply (mayWait c _ (by decide) hO); iapply (Rec_lev (X := X) (κ := κ) (ιs := ιs)); iexact HR
    iexact Hat
  iintro ⟨HO, Hat, Hre, Hpay⟩
  ihave Hp := (Entails.of_eq (by rw [Finset.sdiff_empty, Rd_duties, duties_snd b hh, bigSep_singleton, Rd_payload, pay_snd] :
    bigSep ((Rd X).duties (cell c (.snd b (sl h))) (h / 2) \ ∅) (fun d => (Rd X).payload (cell c (.snd b (sl h))) (h / 2) d)
      = slotPt b (sl h) fullShare.left c (chunk X b h c))) $$ Hpay
  iapply Hk
  isplitl [Hp Hs]
  · iapply (slotPt_halves b (sl h) c (chunk X b h c)).2
    isplitl [Hp] <;> iassumption
  isplitr [HO]
  · isplitl [Hc1]; · iexact Hc1
    isplitl [Hat Hre]
    · rw [sl_add_two, show (h + 1 + 1) / 2 = h / 2 + 1 by omega]
      isplitl [Hat] <;> iassumption
    iexact Hrest
  · iexists _; iexact HO

set_option maxHeartbeats 800000 in
/-- The credit of hop `h`: the slot just read is released as the landing slot of hop `h + 1`. -/
theorem wp_credit (b : Bool) (c : Dev nD) {h : ℕ} (hh : h < 6) (s k p : ℕ) (O : CellTallies nD τ sig ℕ) (K : PUnit.{1} → Pr F) :
    iprop(Rec X κ ιs ∗ holds X b h fullShare c ∗ Keep b c s h h k p ∗ due c (O + Ocr b c h))
      ⊢ iprop(((Keep b c s h (h + 1) k p ∗ due c O) -∗ run c (K ⟨⟩) Q)
          -∗ run c (creditOp b c K) Q) := by
  unfold Keep due holds
  iintro ⟨#HR, Hs, ⟨Hc0, Hc1, Hc2, Hc3, Hcp, #Hf, Hst, Hst2, Hst3, Hst4⟩, ⟨%W, HO⟩⟩ Hk
  ihave Hst3 := (stock_peel (credTok b c) hh) $$ Hst3
  icases Hst3 with ⟨Ht, Hst3⟩
  ihave Ht := (Entails.of_eq (by unfold credTok; rfl : credTok (F := F) b c h
    = iprop(dutyTok ER (cell (org b c) (.cr b)) 0 h ∗ Release.readerAt ES ((c, b, h + 1) : Key) 0))) $$ Ht
  icases Ht with ⟨Ht, Hrd⟩
  ihave Hi := (Rec_key c b (h := h + 1) (by omega)) $$ HR
  imod (Release.slot_release (Es := Set.univ) ES (Set.mem_univ _) (slotAny_twice b (sl (h + 1 + 1)) c) 0) $$ [Hi Hrd Hs] with ⟨-, #Hrel⟩
  · isplitl [Hi]; · iexact Hi
    isplitl [Hrd]; · iexact Hrd
    rw [sl_add_two]; iapply (slotPt_any b (sl h) c); iexact Hs
  unfold cellAt
  icases Hc3 with ⟨Hat3, #Hr3⟩
  ihave Hf2 : bigSep (Finset.range (h + 1)) (fun i => grantOf b c (i + 1)) $$ []
  · iapply (range_snoc (fun i => grantOf b c (i + 1)) h)
    isplitr
    · unfold grantOf
      isplitr; · iexact Hrel
      iexact Hr3
    · iexact Hf
  icases Hf2 with #Hf2
  iapply (Rounds.wp_signal 𝒱₀ ER (Rd X) (c : Thread nD τ) none (dst := (org b c : Thread nD τ)) (κ := κ (org b c, .cr b)) (sem := crS b) (r := 0)
      (d := h) (by rw [show ((org b c : Thread nD τ), SemLoc.reg (crS b)) = cell (org b c) (.cr b) from rfl, Rd_duties]; exact Finset.mem_range.mpr hh)
      ((Rd_amount X (org b c) (.cr b) 0 h).trans (show 1 = _ by decide)) (2 * h + 3) O rfl (W := W)) $$ [HO Ht]
  · isplitr; · iapply (Rec_cell (org b c) (.cr b)); iexact HR
    isplitl [HO]; · iexact HO
    isplitl [Ht]; · iexact Ht
    isplitr
    · rw [show ((org b c : Thread nD τ), SemLoc.reg (crS b)) = cell (org b c) (.cr b) from rfl, Rd_payload]
      rw [show payK X (org b c) (.cr b) 0 h = grants b (org b c) h from rfl]
      unfold grants; rw [tgt_org]; iexact Hf2
    · iapply (Rec_reached (org b c) (.cr b)); iexact HR
  iintro HO
  iapply Hk
  isplitr [HO]
  · isplitl [Hc0]; · iexact Hc0
    isplitl [Hc1]; · iexact Hc1
    isplitl [Hc2]; · iexact Hc2
    isplitl [Hat3]
    · isplitl; · iexact Hat3
      iexact Hr3
    isplitl [Hcp]; · iexact Hcp
    isplitr; · iexact Hf2
    isplitl [Hst]; · iexact Hst
    isplitl [Hst2]; · iexact Hst2
    isplitl [Hst3] <;> iassumption
  · iexists W; iexact HO

set_option maxHeartbeats 800000 in
/-- The wait for the landing of hop `h` gives the other slot, with the half block of hop `h + 1`. -/
theorem wp_recvWait (b : Bool) (c : Dev nD) {h : ℕ} (hh : h < 7) (s g k p : ℕ) {O : CellTallies nD τ sig ℕ} (hO : Above (2 * h + 2) O) (K : PUnit.{1} → Pr F) :
    iprop(Rec X κ ιs ∗ Keep b c s h g k p ∗ due c O)
      ⊢ iprop(((holds X b (h + 1) fullShare c ∗ Keep b c s (h + 1) g k p ∗ due c O) -∗ run c (K ⟨⟩) Q)
          -∗ run c (recvWaitOp b h K) Q) := by
  unfold Keep due holds
  iintro ⟨#HR, ⟨Hc0, Hc1, Hc2, Hc3, Hcp, Hf, Hst, Hst2, Hrest⟩, ⟨%W, HO⟩⟩ Hk
  ihave Hst2 := (stock_peel (rcvCred b c) hh) $$ Hst2
  icases Hst2 with ⟨Hc, Hst2⟩
  ihave Hc := (Entails.of_eq (by unfold rcvCred; rfl : rcvCred (F := F) b c h = cred (tallyAt (cell c (.rcv b (sl (h + 1)))) (2 * h + 2) N))) $$ Hc
  unfold cellAt
  icases Hc2 with ⟨Hat, -⟩
  iapply (Rounds.wp_wait_rest_token 𝒱₀ ER (Rd X) (c : Thread nD τ) none (κ := κ (c, .rcv b (sl (h + 1)))) (sm := locOf (.rcv b (sl (h + 1))))
      (wpE_waitDma2_eq 𝒱₀ (c : Thread nD τ) none Set.univ) (Set.mem_univ _) (2 * h + 2) (O := O) (W := W) (R := h / 2) (m := 0) (T := ∅)
      (by rw [Rd_expect, duties_rcv b hh, N_eq, Finset.card_singleton, Nat.one_mul, Nat.zero_add]; rfl)) $$ [Hc HO Hat]
  · isplitr; · iapply (Rec_cell c (.rcv b (sl (h + 1)))); iexact HR
    isplitl [Hc]; · rw [N_eq]; iexact Hc
    isplitl [HO]; · iexact HO
    isplitr; · iapply (mayWait c _ (by omega) hO); iapply (Rec_lev (X := X) (κ := κ) (ιs := ιs)); iexact HR
    iexact Hat
  iintro ⟨HO, Hat, Hre, Hpay⟩
  ihave Hp := (Entails.of_eq (by rw [Finset.sdiff_empty, Rd_duties, duties_rcv b hh, bigSep_singleton, Rd_payload, pay_rcv] :
    bigSep ((Rd X).duties (cell c (.rcv b (sl (h + 1)))) (h / 2) \ ∅) (fun d => (Rd X).payload (cell c (.rcv b (sl (h + 1)))) (h / 2) d)
      = slotPt b (sl (h + 1)) fullShare c (chunk X b (h + 1) c))) $$ Hpay
  iapply Hk
  isplitl [Hp]; · iexact Hp
  isplitr [HO]
  · isplitl [Hc0]; · iexact Hc0
    isplitl [Hc1]; · iexact Hc1
    isplitl [Hc3]; · iexact Hc3
    isplitl [Hat Hre]
    · rw [sl_add_two (h + 1), show (h + 1 + 1) / 2 = h / 2 + 1 by omega]
      isplitl [Hat] <;> iassumption
    isplitl [Hcp]; · iexact Hcp
    isplitl [Hf]; · iexact Hf
    isplitl [Hst]; · iexact Hst
    isplitl [Hst2] <;> iassumption
  · iexists _; iexact HO

omit [FloatOps F] in
/-- Among the duties of at least `i + 1` landed credits is one that carries the release of hop `i + 1`. -/
theorem grant_of_landed (b : Bool) (c : Dev nD) {i : ℕ} {S : Finset ℕ} (hS : S ⊆ Finset.range 6) (hc : i + 1 ≤ S.card) :
    (bigSep S fun j => grants (F := F) b c j) ⊢ grantOf b (tgt b c) (i + 1) := by
  have : ∃ j ∈ S, i ≤ j := by
    by_contra hn
    have hsub : S ⊆ Finset.range i := fun j hj => Finset.mem_range.mpr (Nat.lt_of_not_le fun hle => hn ⟨j, hj, hle⟩)
    have := Finset.card_le_card hsub
    rw [Finset.card_range] at this; omega
  obtain ⟨j, hj, hle⟩ := this
  refine (bigSep_elim (Φ := fun j => grants (F := F) b c j) hj).trans ?_
  unfold grants
  exact bigSep_elim (Φ := fun i => grantOf (F := F) b (tgt b c) (i + 1)) (Finset.mem_range.mpr (by omega))

/-- What a set of credit units carries: of each, all releases up to its hop. -/
theorem payload_cr (b : Bool) (c : Dev nD) (T : Finset ℕ) :
    (bigSep T fun d => (Rd X).payload (cell c (.cr b)) 0 d) = bigSep T fun j => grants b c j := by
  refine congrArg (bigSep T) (funext fun d => ?_)
  rw [Rd_payload]; rfl

set_option maxHeartbeats 1600000 in
/-- The wait for credit `i` gives the release of hop `i + 1`. -/
theorem wp_creditWait (b : Bool) (c : Dev nD) {i : ℕ} (hi : i < 6) (s r g p : ℕ) {O : CellTallies nD τ sig ℕ} (hO : Above (2 * i + 3) O) (K : PUnit.{1} → Pr F) :
    iprop(Rec X κ ιs ∗ Keep b c s r g i p ∗ due c O)
      ⊢ iprop(((grantOf b (tgt b c) (i + 1) ∗ Keep b c s r g (i + 1) p ∗ due c O) -∗ run c (K ⟨⟩) Q)
          -∗ run c (creditWaitOp b K) Q) := by
  unfold Keep due
  iintro ⟨#HR, ⟨Hc0, Hc1, Hc2, Hc3, Hcp, Hf, Hst, Hst2, Hst3, Hst4⟩, ⟨%W, HO⟩⟩ Hk
  ihave Hst4 := (stock_peel (crCred b c) hi) $$ Hst4
  icases Hst4 with ⟨Hc, Hst4⟩
  ihave Hc := (Entails.of_eq (by unfold crCred; rfl : crCred (F := F) b c i = cred (tallyAt (cell c (.cr b)) (2 * i + 3) 1))) $$ Hc
  ihave Hcp := (Entails.of_eq (creditPos_lt b c hi)) $$ Hcp
  icases Hcp with ⟨%T, %hT, Hat, #Hpay⟩
  have hexp : (Rd X).expect (cell c (.cr b)) 0 = 6 := by rw [Rd_expect, duties_cr, Finset.card_range]; rfl
  rcases Nat.lt_or_ge i 5 with hi5 | hi5
  · iapply (Rounds.wp_wait 𝒱₀ ER (Rd X) (c : Thread nD τ) none (κ := κ (c, .cr b)) (sm := locOf (.cr b)) (k' := 1)
        (wpE_semWait_eq 𝒱₀ (c : Thread nD τ) none Set.univ) (Set.mem_univ _) (O := O) (W := W) (R := 0) (m := i) (T := T)
        (cr := Finsupp.single (2 * i + 3) 1) {(locOf (.cr b), 2 * i + 3)} (by rw [Util.total_single]) (image_single_subset _ _ 1)) $$ [Hc HO Hat]
    · isplitr; · iapply (Rec_cell c (.cr b)); iexact HR
      isplitl [Hc]; · iexact Hc
      isplitl [HO]; · iexact HO
      isplitr; · iapply (mayWait c _ (by omega) hO); iapply (Rec_lev (X := X) (κ := κ) (ιs := ιs)); iexact HR
      iexact Hat
    iintro %S ⟨%hS, HO, Hat, Hnew⟩
    ihave Hnew := (Entails.of_eq (payload_cr (X := X) b c (S \ T))) $$ Hnew
    icases Hnew with #Hnew
    obtain ⟨hTS, hSd, hcard⟩ := hS
    rw [Rd_duties, duties_cr] at hSd
    have hcS : i + 1 ≤ S.card := by
      change i + 1 + ((Rd X).duties (cell c (.cr b)) 0 \ S).card ≤ (Rd X).expect (cell c (.cr b)) 0 at hcard
      rw [hexp, Rd_duties, duties_cr, Finset.card_sdiff_of_subset hSd, Finset.card_range] at hcard
      have := Finset.card_le_card hSd; rw [Finset.card_range] at this; omega
    ihave HS : (bigSep S fun j => grants (F := F) b c j) $$ []
    · iapply (rest_join (fun j => grants b c j) hTS)
      isplitr; · iexact Hpay
      iexact Hnew
    icases HS with #HS
    iapply Hk
    isplitr; · iapply (grant_of_landed b c hSd hcS); iexact HS
    isplitr [HO]
    · isplitl [Hc0]; · iexact Hc0
      isplitl [Hc1]; · iexact Hc1
      isplitl [Hc2]; · iexact Hc2
      isplitl [Hc3]; · iexact Hc3
      isplitl [Hat]
      · iapply (Entails.of_eq (creditPos_lt b c (by omega : i + 1 < 6)).symm)
        iexists S
        isplitr; · ipureintro; exact hSd
        isplitl; · iexact Hat
        iexact HS
      iframe
    · iexists _; iexact HO
  · obtain rfl : i = 5 := by omega
    iapply (Rounds.wp_wait_rest_token 𝒱₀ ER (Rd X) (c : Thread nD τ) none (κ := κ (c, .cr b)) (sm := locOf (.cr b)) (k' := 1)
        (wpE_semWait_eq 𝒱₀ (c : Thread nD τ) none Set.univ) (Set.mem_univ _) (2 * 5 + 3) (O := O) (W := W) (R := 0) (m := 5) (T := T)
        (by rw [hexp])) $$ [Hc HO Hat]
    · isplitr; · iapply (Rec_cell c (.cr b)); iexact HR
      isplitl [Hc]; · iexact Hc
      isplitl [HO]; · iexact HO
      isplitr; · iapply (mayWait c _ (by omega) hO); iapply (Rec_lev (X := X) (κ := κ) (ιs := ιs)); iexact HR
      iexact Hat
    iintro ⟨HO, Hat, -, Hnew⟩
    ihave Hnew := (Entails.of_eq (by rw [payload_cr, Rd_duties, duties_cr] :
      (bigSep ((Rd X).duties (cell c (.cr b)) 0 \ T) fun d => (Rd X).payload (cell c (.cr b)) 0 d) = bigSep (Finset.range 6 \ T) fun j => grants b c j)) $$ Hnew
    icases Hnew with #Hnew
    ihave HS : (bigSep (Finset.range 6) fun j => grants (F := F) b c j) $$ []
    · iapply (rest_join (fun j => grants b c j) hT)
      isplitr; · iexact Hpay
      iexact Hnew
    icases HS with #HS
    iapply Hk
    isplitr; · iapply (grant_of_landed b c (Finset.Subset.refl _) (by rw [Finset.card_range])); iexact HS
    isplitr [HO]
    · isplitl [Hc0]; · iexact Hc0
      isplitl [Hc1]; · iexact Hc1
      isplitl [Hc2]; · iexact Hc2
      isplitl [Hc3]; · iexact Hc3
      isplitl [Hat]
      · iapply (Entails.of_eq (creditPos_six b c).symm)
        iexact Hat
      iframe
    · iexists _; iexact HO

end Cert.RingProof

end
-- ==== Proof.Stage.lean ====
/-
The products

The output's rows and the stores that fill them: store 0 writes a device's own block of rows, then each hop `h = 1 … 7`
writes two half blocks, those that the two lanes hold at that hop. One rule for the first store and one for a half block,
each adding its rows to those that already hold their final value.
-/
module

public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## Which store writes a row -/

/-- The lane that brings row `r`: the half of its block. -/
def laneOf (i : S4096x1024.Idx) : Bool := decide (256 ≤ (i 0).val % 512)
/-- The hop at which device `c` holds it. -/
def hopOf (c : Dev nD) (i : S4096x1024.Idx) : ℕ :=
  if laneOf i then ((i 0).val / 512 + 8 - c.val) % 8 else (c.val + 8 - (i 0).val / 512) % 8
/-- The store of hop `h` in lane `b`, counted in program order. -/
def storeNo (b : Bool) (h : ℕ) : ℕ := 2 * h - 1 + b.toNat
/-- The store that writes a row. -/
def noOf (c : Dev nD) (i : S4096x1024.Idx) : ℕ := if hopOf c i = 0 then 0 else storeNo (laneOf i) (hopOf c i)

/-- There are hops 0 to 7, -/
theorem hopOf_lt (c : Dev nD) (i : S4096x1024.Idx) : hopOf c i < 8 := by
  unfold hopOf; split <;> exact Nat.mod_lt _ (by decide)
/-- and fifteen stores. -/
theorem noOf_lt (c : Dev nD) (i : S4096x1024.Idx) : noOf c i < 15 := by
  have := hopOf_lt c i
  unfold noOf storeNo; split
  · decide
  · cases laneOf i
    · show 2 * hopOf c i - 1 + 0 < 15; omega
    · show 2 * hopOf c i - 1 + 1 < 15; omega
/-- The first store writes the rows that the device has itself. -/
theorem noOf_zero {c : Dev nD} {i : S4096x1024.Idx} (h : noOf c i = 0) : hopOf c i = 0 := by
  unfold noOf storeNo at h
  by_contra hn; rw [if_neg hn] at h; omega
/-- The store of hop `h` in lane `b` writes the rows that the device holds then in that lane. -/
theorem noOf_store {c : Dev nD} {i : S4096x1024.Idx} {b : Bool} {h : ℕ} (hh : 1 ≤ h) (hno : noOf c i = storeNo b h) :
    hopOf c i = h ∧ laneOf i = b := by
  unfold noOf storeNo at hno
  by_cases h0 : hopOf c i = 0
  · rw [if_pos h0] at hno; omega
  · rw [if_neg h0] at hno
    cases hl : laneOf i <;> cases b <;> rw [hl] at hno <;>
      simp only [Bool.toNat_false, Bool.toNat_true] at hno <;> first | (exact ⟨by omega, rfl⟩) | omega

/-- The block that a row belongs to is the one held at its hop. -/
theorem home_hopOf (c : Dev nD) (i : S4096x1024.Idx) : (home (laneOf i) (hopOf c i) c).val = (i 0).val / 512 := by
  have hi : (i 0).val < 4096 := (i 0).isLt
  have hc := c.isLt
  simp only [nD] at hc
  unfold hopOf
  cases laneOf i <;> simp only [home, Bool.false_eq_true, if_false, if_true] <;> omega

/-- A row within its half block, and within its block. -/
def low256 (i : S4096x1024.Idx) : S256x1024.Idx := fun a => match a with
  | ⟨0, _⟩ => (⟨(i 0).val % 256, Nat.mod_lt _ (by decide)⟩ : Fin 256)
  | ⟨1, _⟩ => i 1
/-- Its place in the device's own product. -/
def low512 (i : S4096x1024.Idx) : S512x1024.Idx := fun a => match a with
  | ⟨0, _⟩ => (⟨(i 0).val % 512, Nat.mod_lt _ (by decide)⟩ : Fin 512)
  | ⟨1, _⟩ => i 1

/-- Indices of a matrix with equal coordinates are equal. -/
theorem ext2 {n m : ℕ} {i j : (⟨2, ![n, m]⟩ : Shape).Idx} (h0 : (i 0).val = (j 0).val) (h1 : (i 1).val = (j 1).val) : i = j := by
  refine funext fun a => Fin.ext ?_
  match a with
  | ⟨0, _⟩ => exact h0
  | ⟨1, _⟩ => exact h1

variable (X : Dev nD → Vec F S512x4096 .f32) (Wt : Dev nD → Vec F S4096x1024 .f32)

/-- The output of device `c`. -/
def outFinal (c : Dev nD) : S4096x1024.Idx → Elt F .f32 := fun i =>
  if hopOf c i = 0 then k0_pay3 (X c) (Wt c) (low512 i) else k0_pay4 (chunk X (laneOf i) (hopOf c i) c) (Wt c) (low256 i)

/-! ## The stores -/

/-- The staging buffer of `x`, -/
abbrev xM : Memref sig .tc .vmem S512x4096 .f32 := Memref.whole cc0_stg0_0
/-- of `w`, -/
abbrev wM : Memref sig .tc .vmem S4096x1024 .f32 := Memref.whole cc0_stg1_0
/-- and of the result. -/
abbrev oM : Memref sig .tc .vmem S4096x1024 .f32 := Memref.whole cc0_stg2_0

/-- The device's block of `x` in its buffer, -/
def xPt (c : Dev nD) : sProp 𝕄 := (c : Thread nD τ).loc cc0_stg0_0 ↦{fullShare} X c
/-- and its columns of `w`. -/
def wPt (c : Dev nD) : sProp 𝕄 := (c : Thread nD τ).loc cc0_stg1_0 ↦{fullShare} Wt c
/-- The output's buffer after the first `n` stores. -/
def outSt (c : Dev nD) (n : ℕ) : sProp 𝕄 :=
  iprop(∃ g : S4096x1024.Idx → Elt F .f32, ⌜∀ i, noOf c i < n → g i = outFinal X Wt c i⌝ ∗ (c : Thread nD τ).loc cc0_stg2_0 ↦{fullShare} g)

variable {X Wt}

/-- One store adds its rows: `r` is where it writes, `v` what, and its rows are those of number `n`. -/
theorem out_write (c : Dev nD) (n : ℕ) (r : Rect S4096x1024) (v : r.shape.Idx → Elt F .f32) (g : S4096x1024.Idx → Elt F .f32)
    (hg : ∀ i, noOf c i < n → g i = outFinal X Wt c i) (low : S4096x1024.Idx → r.shape.Idx)
    (hin : ∀ x, v x = outFinal X Wt c (r.emb x)) (hout : ∀ i, noOf c i = n → r.emb (low i) = i) :
    ∀ i, noOf c i < n + 1 → (oM.access r).write (Elt F) g v Finset.univ i = outFinal X Wt c i := by
  intro i hi
  by_cases hm : ∃ x, r.emb x = i
  · obtain ⟨x, rfl⟩ := hm
    exact ((oM.access r).write_emb_of_mem g v (Finset.mem_univ x)).trans (hin x)
  · rw [View.write_of_not_mem _ _ _ (fun hc => by
      obtain ⟨x, -, hx⟩ := Finset.mem_map.mp hc
      exact hm ⟨x, hx⟩)]
    exact hg i (by
      rcases Nat.lt_or_ge (noOf c i) n with h | h
      · exact h
      · exact absurd ⟨low i, hout i (by omega)⟩ hm)

/-- The zero offset, in the two spellings. -/
theorem z2 : (![0, 0] : Fin 2 → ℕ) = fun _ => 0 := by funext a; revert a; decide

/-- A load of all of `w` is `w`; -/
theorem w_read (f : Vec F S4096x1024 .f32) :
    wM.view.readAt (Elt F) (Rect.unit (s := S4096x1024) ![0, 0] S4096x1024.size inb_S4096x1024_S4096x1024_0_0).toLoadRect f = f :=
  Memref.readAt_unit_zero (Elt F) cc0_stg1_0 z2 inb_S4096x1024_S4096x1024_0_0 f
/-- a load of all of `x` is `x`. -/
theorem x_read (f : Vec F S512x4096 .f32) :
    xM.view.readAt (Elt F) (Rect.unit (s := S512x4096) ![0, 0] S512x4096.size inb_S512x4096_S512x4096_0_0).toLoadRect f = f :=
  Memref.readAt_unit_zero (Elt F) cc0_stg0_0 z2 inb_S512x4096_S512x4096_0_0 f

variable {Q : PUnit.{1} → sProp (MT nD τ sig ℕ (Elt F) ℕ UU ℕ)}

/-- The product of a half block and its store. -/
abbrev halfOp (b : Bool) (h : ℕ) (off : Fin 2 → ℕ) (ho : ∀ a, off a + S256x1024.size a ≤ S4096x1024.size a) (k : PUnit.{1} → Pr F) : Pr F :=
  .op (.load (bufM b) (slotR (sl h)).toLoadRect (View.loadsAt_vmem h_S1x256x4096)) fun v =>
  .op (.load wM (Rect.unit (s := S4096x1024) ![0, 0] S4096x1024.size inb_S4096x1024_S4096x1024_0_0).toLoadRect (View.loadsAt_vmem h_S4096x1024)) fun w =>
  .op (.load oM (Rect.unit (s := S4096x1024) off S256x1024.size ho).toLoadRect (View.loadsAt_vmem h_S256x1024)) fun _ =>
  .op (.store oM (Rect.unit (s := S4096x1024) off S256x1024.size ho) (k0_pay4 v w) Finset.univ (View.stores_vmem_bits_univ h_S256x1024 rfl) (.inl rfl)) k

/-- The product of the device's own block and its store. -/
abbrev ownOp (off : Fin 2 → ℕ) (ho : ∀ a, off a + S512x1024.size a ≤ S4096x1024.size a) (k : PUnit.{1} → Pr F) : Pr F :=
  .op (.load xM (Rect.unit (s := S512x4096) ![0, 0] S512x4096.size inb_S512x4096_S512x4096_0_0).toLoadRect (View.loadsAt_vmem h_S512x4096)) fun v =>
  .op (.load wM (Rect.unit (s := S4096x1024) ![0, 0] S4096x1024.size inb_S4096x1024_S4096x1024_0_0).toLoadRect (View.loadsAt_vmem h_S4096x1024)) fun w =>
  .op (.load oM (Rect.unit (s := S4096x1024) off S512x1024.size ho).toLoadRect (View.loadsAt_vmem h_S512x1024)) fun _ =>
  .op (.store oM (Rect.unit (s := S4096x1024) off S512x1024.size ho) (k0_pay3 v w) Finset.univ (View.stores_vmem_bits_univ h_S512x1024 rfl) (.inl rfl)) k

/-- The rows of a half block's store. -/
theorem half_in (b : Bool) (c : Dev nD) {h : ℕ} (hh : 1 ≤ h) (h8 : h < 8) (off : Fin 2 → ℕ) (ho : ∀ a, off a + S256x1024.size a ≤ S4096x1024.size a)
    (he : off = ![512 * (home b h c).val + 256 * b.toNat, 0]) (x : S256x1024.Idx) :
    k0_pay4 (chunk X b h c) (Wt c) x = outFinal X Wt c ((Rect.unit (s := S4096x1024) off S256x1024.size ho).emb x) := by
  subst he
  have hx : (x 0).val < 256 := (x 0).isLt
  have hc := c.isLt
  simp only [nD] at hc
  have h0 : ((Rect.unit (s := S4096x1024) _ S256x1024.size ho).emb x 0).val = 512 * (home b h c).val + 256 * b.toNat + 1 * (x 0).val := rfl
  have hl : laneOf ((Rect.unit (s := S4096x1024) _ S256x1024.size ho).emb x) = b := by
    unfold laneOf; rw [h0]
    cases b
    · exact decide_eq_false (by show ¬ 256 ≤ (512 * (home false h c).val + 256 * 0 + 1 * (x 0).val) % 512; omega)
    · exact decide_eq_true (by show 256 ≤ (512 * (home true h c).val + 256 * 1 + 1 * (x 0).val) % 512; omega)
  have hhop : hopOf c ((Rect.unit (s := S4096x1024) _ S256x1024.size ho).emb x) = h := by
    unfold hopOf; rw [hl, h0]
    cases b
    · show (c.val + 8 - (512 * ((c.val + 7 * h) % 8) + 256 * 0 + 1 * (x 0).val) / 512) % 8 = h; omega
    · show ((512 * ((c.val + h) % 8) + 256 * 1 + 1 * (x 0).val) / 512 + 8 - c.val) % 8 = h; omega
  unfold outFinal
  rw [hhop, hl, if_neg (by omega)]
  congr 1
  refine ext2 ?_ ?_
  · show (x 0).val = (512 * (home b h c).val + 256 * b.toNat + 1 * (x 0).val) % 256
    omega
  · show (x 1).val = 0 + 1 * (x 1).val
    omega

/-- Every row that the store of hop `h` is to write is in its rectangle, at its place. -/
theorem half_out (b : Bool) (c : Dev nD) {h : ℕ} (hh : 1 ≤ h) (off : Fin 2 → ℕ) (ho : ∀ a, off a + S256x1024.size a ≤ S4096x1024.size a)
    (he : off = ![512 * (home b h c).val + 256 * b.toNat, 0]) (i : S4096x1024.Idx) (hno : noOf c i = storeNo b h) :
    (Rect.unit (s := S4096x1024) off S256x1024.size ho).emb (low256 i) = i := by
  subst he
  obtain ⟨h1, h2⟩ := noOf_store hh hno
  have hm := home_hopOf c i
  rw [h1, h2] at hm
  have hl : decide (256 ≤ (i 0).val % 512) = b := h2
  refine ext2 ?_ ?_
  · show 512 * (home b h c).val + 256 * b.toNat + 1 * ((i 0).val % 256) = (i 0).val
    rw [hm]
    cases b
    · have := of_decide_eq_false hl
      show 512 * _ + 256 * 0 + _ = _; omega
    · have := of_decide_eq_true hl
      show 512 * _ + 256 * 1 + _ = _; omega
  · show 0 + 1 * (i 1).val = (i 1).val; omega

/-- The first store writes what the result is to hold, -/
theorem own_in (c : Dev nD) (off : Fin 2 → ℕ) (ho : ∀ a, off a + S512x1024.size a ≤ S4096x1024.size a)
    (he : off = ![512 * c.val, 0]) (x : S512x1024.Idx) :
    k0_pay3 (X c) (Wt c) x = outFinal X Wt c ((Rect.unit (s := S4096x1024) off S512x1024.size ho).emb x) := by
  subst he
  have hx : (x 0).val < 512 := (x 0).isLt
  have hhop : hopOf c ((Rect.unit (s := S4096x1024) _ S512x1024.size ho).emb x) = 0 := by
    have h0 : ((Rect.unit (s := S4096x1024) _ S512x1024.size ho).emb x 0).val = 512 * c.val + 1 * (x 0).val := rfl
    unfold hopOf; rw [h0]; split <;> omega
  unfold outFinal
  rw [if_pos hhop]
  congr 1
  refine ext2 ?_ ?_
  · show (x 0).val = (512 * c.val + 1 * (x 0).val) % 512; omega
  · show (x 1).val = 0 + 1 * (x 1).val; omega

/-- and all the rows that it is to write. -/
theorem own_out (c : Dev nD) (off : Fin 2 → ℕ) (ho : ∀ a, off a + S512x1024.size a ≤ S4096x1024.size a)
    (he : off = ![512 * c.val, 0]) (i : S4096x1024.Idx) (hno : noOf c i = 0) :
    (Rect.unit (s := S4096x1024) off S512x1024.size ho).emb (low512 i) = i := by
  subst he
  have hm := home_hopOf c i
  rw [noOf_zero hno, home_zero] at hm
  refine ext2 ?_ ?_
  · show 512 * c.val + 1 * ((i 0).val % 512) = (i 0).val; omega
  · show 0 + 1 * (i 1).val = (i 1).val; omega

set_option maxHeartbeats 800000 in
/-- The product of a chunk, stored: one more store is made. -/
theorem wp_half (b : Bool) (c : Dev nD) {h : ℕ} (hh : 1 ≤ h) (h8 : h < 8) (q : PosShare TreeShare) (off : Fin 2 → ℕ)
    (ho : ∀ a, off a + S256x1024.size a ≤ S4096x1024.size a) (he : off = ![512 * (home b h c).val + 256 * b.toNat, 0]) (K : PUnit.{1} → Pr F) :
    iprop(holds X b h q c ∗ wPt Wt c ∗ outSt X Wt c (storeNo b h))
      ⊢ iprop(((holds X b h q c ∗ wPt Wt c ∗ outSt X Wt c (storeNo b h + 1)) -∗ run c (K ⟨⟩) Q)
          -∗ run c (halfOp b h off ho K) Q) := by
  unfold holds wPt outSt slotPt
  iintro ⟨Hs, Hw, ⟨%g, %hg, Ho⟩⟩ Hk
  iapply (wp_load_rect 𝒱₀ (c : Thread nD τ) none Set.univ (m := bufM b) (r := slotR (sl h)) (S := (slotM b (sl h)).view.set)
    (by rw [slotM_set])) $$ Hs
  iintro Hs
  rw [slotV_fill]
  iapply (wp_load 𝒱₀ (c : Thread nD τ) none Set.univ (m := wM) (Finset.subset_univ _)) $$ Hw
  iintro Hw
  rw [w_read]
  iapply (wp_load 𝒱₀ (c : Thread nD τ) none Set.univ (m := oM) (Finset.subset_univ _)) $$ Ho
  iintro Ho
  ihave Ho := (Entails.of_eq (rfl : ((oM.view.loc (c : Thread nD τ)) ↦{fullShare} g : sProp 𝕄)
    = (((oM.access (Rect.unit (s := S4096x1024) off S256x1024.size ho)).loc (c : Thread nD τ)) ↦[Finset.univ]{fullShare} g))) $$ Ho
  iapply (wp_store 𝒱₀ (c : Thread nD τ) none Set.univ (m := oM) (r := Rect.unit (s := S4096x1024) off S256x1024.size ho) (Finset.subset_univ _)) $$ Ho
  iintro Ho
  iapply Hk
  isplitl [Hs]; · iexact Hs
  isplitl [Hw]; · iexact Hw
  iexists _
  isplitr
  · ipureintro
    exact out_write c (storeNo b h) (Rect.unit (s := S4096x1024) off S256x1024.size ho) (k0_pay4 (chunk X b h c) (Wt c)) g hg low256 (half_in b c hh h8 off ho he) (half_out b c hh off ho he)
  · iexact Ho

set_option maxHeartbeats 800000 in
/-- The product of the device's own block, stored: the first store is made. -/
theorem wp_own (c : Dev nD) (off : Fin 2 → ℕ) (ho : ∀ a, off a + S512x1024.size a ≤ S4096x1024.size a) (he : off = ![512 * c.val, 0]) (K : PUnit.{1} → Pr F) :
    iprop(xPt X c ∗ wPt Wt c ∗ outSt X Wt c 0)
      ⊢ iprop(((xPt X c ∗ wPt Wt c ∗ outSt X Wt c 1) -∗ run c (K ⟨⟩) Q)
          -∗ run c (ownOp off ho K) Q) := by
  unfold xPt wPt outSt
  iintro ⟨Hs, Hw, ⟨%g, %hg, Ho⟩⟩ Hk
  iapply (wp_load 𝒱₀ (c : Thread nD τ) none Set.univ (m := xM) (Finset.subset_univ _)) $$ Hs
  iintro Hs
  rw [x_read]
  iapply (wp_load 𝒱₀ (c : Thread nD τ) none Set.univ (m := wM) (Finset.subset_univ _)) $$ Hw
  iintro Hw
  rw [w_read]
  iapply (wp_load 𝒱₀ (c : Thread nD τ) none Set.univ (m := oM) (Finset.subset_univ _)) $$ Ho
  iintro Ho
  ihave Ho := (Entails.of_eq (rfl : ((oM.view.loc (c : Thread nD τ)) ↦{fullShare} g : sProp 𝕄)
    = (((oM.access (Rect.unit (s := S4096x1024) off S512x1024.size ho)).loc (c : Thread nD τ)) ↦[Finset.univ]{fullShare} g))) $$ Ho
  iapply (wp_store 𝒱₀ (c : Thread nD τ) none Set.univ (m := oM) (r := Rect.unit (s := S4096x1024) off S512x1024.size ho) (Finset.subset_univ _)) $$ Ho
  iintro Ho
  iapply Hk
  isplitl [Hs]; · iexact Hs
  isplitl [Hw]; · iexact Hw
  iexists _
  isplitr
  · ipureintro
    exact out_write c 0 (Rect.unit (s := S4096x1024) off S512x1024.size ho) (k0_pay3 (X c) (Wt c)) g hg low512 (own_in c off ho he) (own_out c off ho he)
  · iexact Ho

end Cert.RingProof

end
-- ==== Proof.Entry.lean ====
/-
Entering

The barrier at the start: a signal to each neighbour, each releasing the landing slot for the copy of hop 0, and the wait for
both neighbours' signals. Then the first half blocks are put into the slots.
-/
module

public import proofs.«01_k».proof.Proof.Stage

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- What the signal of lane `b` takes. -/
def barTok (b : Bool) (c : Dev nD) : sProp 𝕄 :=
  iprop(dutyTok ER (cell (org b c) .bar) 0 b.toNat ∗ Release.readerAt ES ((c, b, 0) : Key) 0)

variable {X : Dev nD → Vec F S512x4096 .f32} {κ : Dev nD × Kd → ℕ} {ιs : Key → ℕ} {Q : PUnit.{1} → sProp (MT nD τ sig ℕ (Elt F) ℕ UU ℕ)}

/-- The signal of lane `b`. -/
abbrev enterOp (b : Bool) (c : Dev nD) (k : PUnit.{1} → Pr F) : Pr F := .op (.semSignal (org b c : Thread nD τ) barrier0 (1#32).toInt) k
/-- The wait for the neighbours. -/
abbrev meetOp (k : PUnit.{1} → Pr F) : Pr F := .op (.semWait barrier0 (2#32).toInt) k

/-- A barrier unit carries the right to write the landing slot of hop 0. -/
theorem pay_bar (b : Bool) (c : Dev nD) : payK X (org b c) .bar 0 b.toNat = grantOf b c 0 := by
  cases b
  · show grantOf false (tgt false (org false c)) 0 = _; rw [tgt_org]
  · show grantOf true (tgt true (org true c)) 0 = _; rw [tgt_org]

set_option maxHeartbeats 800000 in
/-- The signal to one neighbour: the device gives up its landing slot of hop 0. -/
theorem wp_enter (b : Bool) (c : Dev nD) (O : CellTallies nD τ sig ℕ) (K : PUnit.{1} → Pr F) :
    iprop(Rec X κ ιs ∗ slotAny b 1 c ∗ barTok b c ∗ due c (O + Obar b c))
      ⊢ iprop((due c O -∗ run c (K ⟨⟩) Q) -∗ run c (enterOp b c K) Q) := by
  unfold due barTok
  iintro ⟨#HR, Hs, ⟨Ht, Hrd⟩, ⟨%W, HO⟩⟩ Hk
  ihave Hi := (Rec_key c b (h := 0) (by omega)) $$ HR
  imod (Release.slot_release (Es := Set.univ) ES (Set.mem_univ _) (slotAny_twice b (sl (0 + 1)) c) 0) $$ [Hi Hrd Hs] with ⟨-, #Hrel⟩
  · isplitl [Hi]; · iexact Hi
    isplitl [Hrd]; · iexact Hrd
    iexact Hs
  iapply (Rounds.wp_signal 𝒱₀ ER (Rd X) (c : Thread nD τ) none (dst := (org b c : Thread nD τ)) (κ := κ (org b c, .bar)) (sem := barrier0) (r := 0)
      (d := b.toNat) (by
        rw [show ((org b c : Thread nD τ), SemLoc.reg barrier0) = cell (org b c) .bar from rfl, Rd_duties]
        exact Finset.mem_range.mpr (by cases b <;> decide))
      ((Rd_amount X (org b c) .bar 0 b.toNat).trans (show 1 = _ by decide)) 1 O rfl (W := W)) $$ [HO Ht]
  · isplitr; · iapply (Rec_cell (org b c) .bar); iexact HR
    isplitl [HO]; · iexact HO
    isplitl [Ht]; · iexact Ht
    isplitr
    · rw [show ((org b c : Thread nD τ), SemLoc.reg barrier0) = cell (org b c) .bar from rfl, Rd_payload, pay_bar]
      unfold grantOf
      isplitr; · iexact Hrel
      iapply (Rec_reached c (.rcv b (sl (0 + 1)))); iexact HR
    · iapply (Rec_reached (org b c) .bar); iexact HR
  iintro HO
  iapply Hk
  iexists W; iexact HO

/-- The two barrier units together carry the rights to write both neighbours' landing slots. -/
theorem pay_meet (c : Dev nD) : bigSep ((Rd X).duties (cell c .bar) 0 \ ∅) (fun d => (Rd X).payload (cell c .bar) 0 d)
    = iprop(grantOf false (tgt false c) 0 ∗ grantOf true (tgt true c) 0) := by
  rw [Finset.sdiff_empty, Rd_duties, show dutiesK .bar 0 = insert 0 ({1} : Finset ℕ) by decide, bigSep_insert (by decide), bigSep_singleton,
    Rd_payload, Rd_payload]
  rfl

set_option maxHeartbeats 800000 in
/-- The wait for both neighbours' barrier units. -/
theorem wp_meet (c : Dev nD) {O : CellTallies nD τ sig ℕ} (hO : Above 1 O) (K : PUnit.{1} → Pr F) :
    iprop(Rec X κ ιs ∗ atPos ER (cell c .bar) 0 ∅ 0 ∗ cred (tallyAt (cell c .bar) 1 2) ∗ due c O)
      ⊢ iprop(((grantOf false (tgt false c) 0 ∗ grantOf true (tgt true c) 0 ∗ atPos ER (cell c .bar) 1 ∅ 0 ∗ due c O) -∗ run c (K ⟨⟩) Q)
          -∗ run c (meetOp K) Q) := by
  unfold due
  iintro ⟨#HR, Hat, Hc, ⟨%W, HO⟩⟩ Hk
  iapply (Rounds.wp_wait_rest_token 𝒱₀ ER (Rd X) (c : Thread nD τ) none (κ := κ (c, .bar)) (sm := locOf .bar) (k' := 2)
      (wpE_semWait_eq 𝒱₀ (c : Thread nD τ) none Set.univ) (Set.mem_univ _) 1 (O := O) (W := W) (R := 0) (m := 0) (T := ∅)
      (by rw [Rd_expect]; decide)) $$ [Hc HO Hat]
  · isplitr; · iapply (Rec_cell c .bar); iexact HR
    isplitl [Hc]; · iexact Hc
    isplitl [HO]; · iexact HO
    isplitr; · iapply (mayWait c _ (by decide) hO); iapply (Rec_lev (X := X) (κ := κ) (ιs := ιs)); iexact HR
    iexact Hat
  iintro ⟨HO, Hat, -, Hpay⟩
  ihave Hp := (Entails.of_eq (pay_meet (X := X) c)) $$ Hpay
  icases Hp with ⟨Hp1, Hp2⟩
  iapply Hk
  isplitl [Hp1]; · iexact Hp1
  isplitl [Hp2]; · iexact Hp2
  isplitl [Hat]; · iexact Hat
  iexists _; iexact HO

/-! ## The first half blocks -/

/-- Where a lane's half of the own block lies. -/
abbrev topR : Rect S512x4096 := Rect.unit (s := S512x4096) ![0, 0] S256x4096.size inb_S512x4096_S256x4096_0_0
/-- The lower half of the block of `x`. -/
abbrev botR : Rect S512x4096 := Rect.unit (s := S512x4096) ![256, 0] S256x4096.size inb_S512x4096_S256x4096_256_0

/-- Putting the top half into the slot of lane `false`, -/
abbrev topOp (k : PUnit.{1} → Pr F) : Pr F :=
  .op (.load xM topR.toLoadRect (View.loadsAt_vmem h_S256x4096)) fun v =>
  .op (.load (bufM false) (slotR 0).toLoadRect (View.loadsAt_vmem h_S1x256x4096)) fun _ =>
  .op (.store (bufM false) (slotR 0) (k0_pay1 v) Finset.univ (View.stores_vmem_bits_univ h_S1x256x4096 rfl) (.inl rfl)) k
/-- the bottom half into the slot of lane `true`. -/
abbrev botOp (k : PUnit.{1} → Pr F) : Pr F :=
  .op (.load xM botR.toLoadRect (View.loadsAt_vmem h_S256x4096)) fun v =>
  .op (.load (bufM true) (slotR 0).toLoadRect (View.loadsAt_vmem h_S1x256x4096)) fun _ =>
  .op (.store (bufM true) (slotR 0) (k0_pay2 v) Finset.univ (View.stores_vmem_bits_univ h_S1x256x4096 rfl) (.inl rfl)) k

set_option maxHeartbeats 800000 in
/-- The upper half of `x` is stored into slot 0 of lane `false`; -/
theorem wp_top (c : Dev nD) (K : PUnit.{1} → Pr F) :
    iprop(xPt X c ∗ slotAny false 0 c)
      ⊢ iprop(((xPt X c ∗ holds X false 0 fullShare c) -∗ run c (K ⟨⟩) Q) -∗ run c (topOp K) Q) := by
  unfold xPt slotAny Release.slot holds
  iintro ⟨Hx, ⟨%f, Hs⟩⟩ Hk
  iapply (wp_load_rect 𝒱₀ (c : Thread nD τ) none Set.univ (m := xM) (r := topR) (S := Finset.univ) (Finset.subset_univ _)) $$ Hx
  iintro Hx
  iapply (wp_load_rect 𝒱₀ (c : Thread nD τ) none Set.univ (m := bufM false) (r := slotR 0) (S := (slotM false 0).view.set)
    (by rw [slotM_set])) $$ Hs
  iintro Hs
  iapply (wp_store 𝒱₀ (c : Thread nD τ) none Set.univ (m := bufM false) (r := slotR 0) (S := (slotM false 0).view.set)
    (by rw [slotM_set]; exact Finset.Subset.refl _)) $$ Hs
  iintro Hs
  iapply Hk
  isplitl [Hx]; · iexact Hx
  iapply (Entails.of_eq (by rw [slot_stored]; unfold chunk; rw [if_neg (by decide), home_zero]; rfl :
    ((slotV false 0).loc (c : Thread nD τ) ↦[(slotM false 0).view.set]{fullShare}
      ((slotV false 0).write (Elt F) f (k0_pay1 ((xM.access topR).read (Elt F) (X c))) Finset.univ) : sProp 𝕄) = slotPt false (sl 0) fullShare c (chunk X false 0 c)))
  iexact Hs

set_option maxHeartbeats 800000 in
/-- the lower half into slot 0 of lane `true`. -/
theorem wp_bot (c : Dev nD) (K : PUnit.{1} → Pr F) :
    iprop(xPt X c ∗ slotAny true 0 c)
      ⊢ iprop(((xPt X c ∗ holds X true 0 fullShare c) -∗ run c (K ⟨⟩) Q) -∗ run c (botOp K) Q) := by
  unfold xPt slotAny Release.slot holds
  iintro ⟨Hx, ⟨%f, Hs⟩⟩ Hk
  iapply (wp_load_rect 𝒱₀ (c : Thread nD τ) none Set.univ (m := xM) (r := botR) (S := Finset.univ) (Finset.subset_univ _)) $$ Hx
  iintro Hx
  iapply (wp_load_rect 𝒱₀ (c : Thread nD τ) none Set.univ (m := bufM true) (r := slotR 0) (S := (slotM true 0).view.set)
    (by rw [slotM_set])) $$ Hs
  iintro Hs
  iapply (wp_store 𝒱₀ (c : Thread nD τ) none Set.univ (m := bufM true) (r := slotR 0) (S := (slotM true 0).view.set)
    (by rw [slotM_set]; exact Finset.Subset.refl _)) $$ Hs
  iintro Hs
  iapply Hk
  isplitl [Hx]; · iexact Hx
  iapply (Entails.of_eq (by rw [slot_stored]; unfold chunk; rw [if_pos rfl, home_zero]; rfl :
    ((slotV true 0).loc (c : Thread nD τ) ↦[(slotM true 0).view.set]{fullShare}
      ((slotV true 0).write (Elt F) f (k0_pay2 ((xM.access botR).read (Elt F) (X c))) Finset.univ) : sProp 𝕄) = slotPt true (sl 0) fullShare c (chunk X true 0 c)))
  iexact Hs

end Cert.RingProof

end
-- ==== Proof.Round.lean ====
/-
The rounds of the program

One round, at a symbolic hop: both lanes' copies, the products, the waits for the reads, the credits, the waits for the
landings and for the credits of the next hop. Then the last round, which gives and takes no credit.
-/
module

public import proofs.«01_k».proof.Proof.Entry

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S512x4096 .f32) (Wt : Dev nD → Vec F S4096x1024 .f32)

/-- The operands and the output after `n` stores. -/
def work (c : Dev nD) (n : ℕ) : sProp 𝕄 := iprop(xPt X c ∗ wPt Wt c ∗ outSt X Wt c n)

/-- Both lanes before the copies of hop `h`. -/
def atHop (c : Dev nD) (h : ℕ) : sProp 𝕄 :=
  iprop(holds X false h fullShare c ∗ holds X true h fullShare c ∗ grantOf false (tgt false c) h ∗ grantOf true (tgt true c) h
    ∗ Keep false c h h h h h ∗ Keep true c h h h h h ∗ due c (Lane false c h h + Lane true c h h))

/-- Both lanes when all copies have landed. -/
def atEnd (c : Dev nD) : sProp 𝕄 :=
  iprop(holds X false 6 fullShare c ∗ holds X true 6 fullShare c ∗ holds X false 7 fullShare c ∗ holds X true 7 fullShare c
    ∗ Keep false c 7 7 6 6 7 ∗ Keep true c 7 7 6 6 7 ∗ due c 0)

variable {X Wt} {κ : Dev nD × Kd → ℕ} {ιs : Key → ℕ} {Q : PUnit.{1} → sProp (MT nD τ sig ℕ (Elt F) ℕ UU ℕ)}

/-- A part of the program that makes products only, whatever share of the slots it holds. -/
def Makes (X : Dev nD → Vec F S512x4096 .f32) (Wt : Dev nD → Vec F S4096x1024 .f32) (c : Dev nD) (h n n' : ℕ)
    (St : (PUnit.{1} → Pr F) → Pr F) : Prop :=
  ∀ (q : PosShare TreeShare) (K : PUnit.{1} → Pr F) (Q : PUnit.{1} → sProp 𝕄),
    iprop(holds X false h q c ∗ holds X true h q c ∗ work X Wt c n)
      ⊢ iprop(((holds X false h q c ∗ holds X true h q c ∗ work X Wt c n') -∗ run c (K ⟨⟩) Q) -∗ run c (St K) Q)

/-- The products of hop `h`. -/
abbrev halvesOp (h : ℕ) (o o' : Fin 2 → ℕ) (ho : ∀ a, o a + S256x1024.size a ≤ S4096x1024.size a) (ho' : ∀ a, o' a + S256x1024.size a ≤ S4096x1024.size a)
    (k : PUnit.{1} → Pr F) : Pr F := halfOp false h o ho fun _ => halfOp true h o' ho' k

/-- The product of the device's own block is the first store. -/
theorem makes_own (c : Dev nD) (off : Fin 2 → ℕ) (ho : ∀ a, off a + S512x1024.size a ≤ S4096x1024.size a) (he : off = ![512 * c.val, 0]) :
    Makes X Wt c 0 0 1 (ownOp (F := F) off ho) := by
  intro q K Q
  unfold work
  iintro ⟨H1, H2, H3⟩ Hk
  iapply (wp_own c off ho he K) $$ H3
  iintro H3
  iapply Hk
  isplitl [H1]; · iexact H1
  isplitl [H2] <;> iassumption

/-- The two products of hop `h` are the stores `2 h - 1` and `2 h`. -/
theorem makes_halves (c : Dev nD) {h : ℕ} (hh : 1 ≤ h) (h8 : h < 8) (o o' : Fin 2 → ℕ) (ho : ∀ a, o a + S256x1024.size a ≤ S4096x1024.size a)
    (ho' : ∀ a, o' a + S256x1024.size a ≤ S4096x1024.size a) (he : o = ![512 * (home false h c).val, 0]) (he' : o' = ![512 * (home true h c).val + 256, 0]) :
    Makes X Wt c h (2 * h - 1) (2 * h + 1) (halvesOp (F := F) h o o' ho ho') := by
  intro q K Q
  unfold work
  iintro ⟨H1, H2, Hx, Hw, Ho⟩ Hk
  ihave Ho := (Entails.of_eq (by rw [show storeNo false h = 2 * h - 1 from rfl] : outSt X Wt c (2 * h - 1) = outSt X Wt c (storeNo false h))) $$ Ho
  iapply (wp_half false c hh h8 q o ho he) $$ [H1 Hw Ho]
  · isplitl [H1]; · iexact H1
    isplitl [Hw] <;> iassumption
  iintro ⟨H1, Hw, Ho⟩
  ihave Ho := (Entails.of_eq (by rw [show storeNo true h = storeNo false h + 1 from rfl] :
    outSt X Wt c (storeNo false h + 1) = outSt X Wt c (storeNo true h))) $$ Ho
  iapply (wp_half true c hh h8 q o' ho' he' K) $$ [H2 Hw Ho]
  · isplitl [H2]; · iexact H2
    isplitl [Hw] <;> iassumption
  iintro ⟨H2, Hw, Ho⟩
  ihave Ho := (Entails.of_eq (by rw [show storeNo true h + 1 = 2 * h + 1 by unfold storeNo; rw [Bool.toNat_true]; omega] :
    outSt X Wt c (storeNo true h + 1) = outSt X Wt c (2 * h + 1))) $$ Ho
  iapply Hk
  isplitl [H1]; · iexact H1
  isplitl [H2]; · iexact H2
  isplitl [Hx]; · iexact Hx
  isplitl [Hw] <;> iassumption

/-- One round. -/
abbrev roundOp (h : ℕ) (c : Dev nD) (St : (PUnit.{1} → Pr F) → Pr F) (k : PUnit.{1} → Pr F) : Pr F :=
  sendOp false h c fun _ => sendOp true h c fun _ => St fun _ => sendWaitOp false h fun _ => sendWaitOp true h fun _ =>
  creditOp false c fun _ => creditOp true c fun _ => recvWaitOp false h fun _ => recvWaitOp true h fun _ =>
  creditWaitOp false fun _ => creditWaitOp true k

/-- The last round. -/
abbrev lastOp (c : Dev nD) (St St' : (PUnit.{1} → Pr F) → Pr F) (k : PUnit.{1} → Pr F) : Pr F :=
  sendOp false 6 c fun _ => sendOp true 6 c fun _ => St fun _ => sendWaitOp false 6 fun _ => sendWaitOp true 6 fun _ =>
  recvWaitOp false 6 fun _ => recvWaitOp true 6 fun _ => St' k

/-- What both lanes owe, with one debt of lane `false` or `true` set apart. -/
theorem apart_false (A B D : CellTallies nD τ sig ℕ) : A + D + B = A + B + D := by rw [add_assoc, add_comm D B, ← add_assoc]
/-- A sum's brackets, moved. -/
theorem apart_true (A B D : CellTallies nD τ sig ℕ) : A + (B + D) = A + B + D := (add_assoc A B D).symm

/-- Both lanes' debts lie above a level that lies below the hops that they have still to make. -/
theorem both_above (c : Dev nD) {n p p' r r' : ℕ} (h1 : n < 2 * p + 2) (h2 : n < 2 * r + 3) (h3 : n < 2 * p' + 2) (h4 : n < 2 * r' + 3) :
    Above n (Lane false c p r + Lane true c p' r') := Above.add (Lane_above _ _ h1 h2) (Lane_above _ _ h3 h4)

/-- In particular after a round's copies. -/
theorem turn_above (c : Dev nD) (h : ℕ) {n : ℕ} (hn : n ≤ 2 * h + 3) : Above n (Lane false c (h + 1) (h + 1) + Lane true c (h + 1) (h + 1)) :=
  both_above c (by omega) (by omega) (by omega) (by omega)

/-- The copies of a hop, the products and the waits for the reads. -/
theorem wp_sends (c : Dev nD) {h : ℕ} (hh : h < 7) (n n' : ℕ) {St : (PUnit.{1} → Pr F) → Pr F} (hSt : Makes X Wt c h n n' St) (K : PUnit.{1} → Pr F) :
    iprop(Rec X κ ιs ∗ atHop X c h ∗ work X Wt c n)
      ⊢ iprop(((holds X false h fullShare c ∗ holds X true h fullShare c ∗ Keep false c (h + 1) h h h (h + 1) ∗ Keep true c (h + 1) h h h (h + 1)
              ∗ due c (Lane false c (h + 1) h + Lane true c (h + 1) h) ∗ work X Wt c n') -∗ run c (K ⟨⟩) Q)
          -∗ run c (sendOp false h c fun _ => sendOp true h c fun _ => St fun _ => sendWaitOp false h fun _ => sendWaitOp true h K) Q) := by
  unfold atHop
  iintro ⟨#HR, ⟨H1, H2, Hg1, Hg2, Hk1, Hk2, HO⟩, Hwk⟩ Hk
  ihave HO := (Entails.of_eq (by rw [Lane_send false c h hh, apart_false] :
    due (F := F) c (Lane false c h h + Lane true c h h) = due c (Lane false c (h + 1) h + Lane true c h h + Ocp false c h))) $$ HO
  iapply (wp_send false c hh 0 h h h) $$ [H1 Hg1 Hk1 HO]
  · isplitr; · iexact HR
    isplitl [H1]; · iexact H1
    isplitl [Hg1]; · iexact Hg1
    isplitl [Hk1] <;> iassumption
  iintro ⟨H1, Hc1, Hk1, HO⟩
  ihave HO := (Entails.of_eq (by rw [Lane_send true c h hh, apart_true] :
    due (F := F) c (Lane false c (h + 1) h + Lane true c h h) = due c (Lane false c (h + 1) h + Lane true c (h + 1) h + Ocp true c h))) $$ HO
  iapply (wp_send true c hh 0 h h h) $$ [H2 Hg2 Hk2 HO]
  · isplitr; · iexact HR
    isplitl [H2]; · iexact H2
    isplitl [Hg2]; · iexact Hg2
    isplitl [Hk2] <;> iassumption
  iintro ⟨H2, Hc2, Hk2, HO⟩
  iapply (hSt fullShare.right _ Q) $$ [H1 H2 Hwk]
  · isplitl [H1]; · iexact H1
    isplitl [H2] <;> iassumption
  iintro ⟨H1, H2, Hwk⟩
  iapply (wp_sendWait false c hh h h h (h + 1) (both_above c (n := 0) (by omega) (by omega) (by omega) (by omega))) $$ [H1 Hc1 Hk1 HO]
  · isplitr; · iexact HR
    isplitl [H1]; · iexact H1
    isplitl [Hc1]; · iexact Hc1
    isplitl [Hk1] <;> iassumption
  iintro ⟨H1, Hk1, HO⟩
  iapply (wp_sendWait true c hh h h h (h + 1) (both_above c (n := 0) (by omega) (by omega) (by omega) (by omega)) K) $$ [H2 Hc2 Hk2 HO]
  · isplitr; · iexact HR
    isplitl [H2]; · iexact H2
    isplitl [Hc2]; · iexact Hc2
    isplitl [Hk2] <;> iassumption
  iintro ⟨H2, Hk2, HO⟩
  iapply Hk
  isplitl [H1]; · iexact H1
  isplitl [H2]; · iexact H2
  isplitl [Hk1]; · iexact Hk1
  isplitl [Hk2]; · iexact Hk2
  isplitl [HO] <;> iassumption

/-- The credits, and the waits for the landings and for the next credits. -/
theorem wp_turn (c : Dev nD) {h : ℕ} (hh : h < 6) (K : PUnit.{1} → Pr F) :
    iprop(Rec X κ ιs ∗ holds X false h fullShare c ∗ holds X true h fullShare c ∗ Keep false c (h + 1) h h h (h + 1) ∗ Keep true c (h + 1) h h h (h + 1)
        ∗ due c (Lane false c (h + 1) h + Lane true c (h + 1) h))
      ⊢ iprop((atHop X c (h + 1) -∗ run c (K ⟨⟩) Q)
          -∗ run c (creditOp false c fun _ => creditOp true c fun _ => recvWaitOp false h fun _ => recvWaitOp true h fun _ =>
              creditWaitOp false fun _ => creditWaitOp true K) Q) := by
  unfold atHop
  iintro ⟨#HR, H1, H2, Hk1, Hk2, HO⟩ Hk
  ihave HO := (Entails.of_eq (by rw [Lane_credit false c (h + 1) hh, apart_false] :
    due (F := F) c (Lane false c (h + 1) h + Lane true c (h + 1) h) = due c (Lane false c (h + 1) (h + 1) + Lane true c (h + 1) h + Ocr false c h))) $$ HO
  iapply (wp_credit false c hh (h + 1) h (h + 1)) $$ [H1 Hk1 HO]
  · isplitr; · iexact HR
    isplitl [H1]; · iexact H1
    isplitl [Hk1] <;> iassumption
  iintro ⟨Hk1, HO⟩
  ihave HO := (Entails.of_eq (by rw [Lane_credit true c (h + 1) hh, apart_true] :
    due (F := F) c (Lane false c (h + 1) (h + 1) + Lane true c (h + 1) h) = due c (Lane false c (h + 1) (h + 1) + Lane true c (h + 1) (h + 1) + Ocr true c h))) $$ HO
  iapply (wp_credit true c hh (h + 1) h (h + 1)) $$ [H2 Hk2 HO]
  · isplitr; · iexact HR
    isplitl [H2]; · iexact H2
    isplitl [Hk2] <;> iassumption
  iintro ⟨Hk2, HO⟩
  iapply (wp_recvWait false c (by omega : h < 7) (h + 1) (h + 1) h (h + 1) (turn_above c h (by omega))) $$ [Hk1 HO]
  · isplitr; · iexact HR
    isplitl [Hk1] <;> iassumption
  iintro ⟨H1, Hk1, HO⟩
  iapply (wp_recvWait true c (by omega : h < 7) (h + 1) (h + 1) h (h + 1) (turn_above c h (by omega))) $$ [Hk2 HO]
  · isplitr; · iexact HR
    isplitl [Hk2] <;> iassumption
  iintro ⟨H2, Hk2, HO⟩
  iapply (wp_creditWait false c hh (h + 1) (h + 1) (h + 1) (h + 1) (turn_above c h (by omega))) $$ [Hk1 HO]
  · isplitr; · iexact HR
    isplitl [Hk1] <;> iassumption
  iintro ⟨Hg1, Hk1, HO⟩
  iapply (wp_creditWait true c hh (h + 1) (h + 1) (h + 1) (h + 1) (turn_above c h (by omega)) K) $$ [Hk2 HO]
  · isplitr; · iexact HR
    isplitl [Hk2] <;> iassumption
  iintro ⟨Hg2, Hk2, HO⟩
  iapply Hk
  isplitl [H1]; · iexact H1
  isplitl [H2]; · iexact H2
  isplitl [Hg1]; · iexact Hg1
  isplitl [Hg2]; · iexact Hg2
  isplitl [Hk1]; · iexact Hk1
  isplitl [Hk2] <;> iassumption

/-- One round, for any hop but the last: both lanes copy on, the products are stored, the credits given, the landings awaited. -/
theorem wp_round (c : Dev nD) {h : ℕ} (hh : h < 6) (n n' : ℕ) {St : (PUnit.{1} → Pr F) → Pr F} (hSt : Makes X Wt c h n n' St) (K : PUnit.{1} → Pr F) :
    iprop(Rec X κ ιs ∗ atHop X c h ∗ work X Wt c n)
      ⊢ iprop(((atHop X c (h + 1) ∗ work X Wt c n') -∗ run c (K ⟨⟩) Q) -∗ run c (roundOp h c St K) Q) := by
  iintro ⟨#HR, Hh, Hwk⟩ Hk
  iapply (wp_sends c (by omega : h < 7) n n' hSt) $$ [Hh Hwk]
  · isplitr; · iexact HR
    isplitl [Hh] <;> iassumption
  iintro ⟨H1, H2, Hk1, Hk2, HO, Hwk⟩
  iapply (wp_turn c hh K) $$ [H1 H2 Hk1 Hk2 HO]
  · isplitr; · iexact HR
    isplitl [H1]; · iexact H1
    isplitl [H2]; · iexact H2
    isplitl [Hk1]; · iexact Hk1
    isplitl [Hk2] <;> iassumption
  iintro Hh
  iapply Hk
  isplitl [Hh] <;> iassumption

/-- The last round: it gives no credit, and the last landed chunks are multiplied after it. -/
theorem wp_last (c : Dev nD) (n n' n'' : ℕ) {St St' : (PUnit.{1} → Pr F) → Pr F} (hSt : Makes X Wt c 6 n n' St) (hSt' : Makes X Wt c 7 n' n'' St')
    (K : PUnit.{1} → Pr F) :
    iprop(Rec X κ ιs ∗ atHop X c 6 ∗ work X Wt c n)
      ⊢ iprop(((atEnd X c ∗ work X Wt c n'') -∗ run c (K ⟨⟩) Q) -∗ run c (lastOp c St St' K) Q) := by
  unfold atEnd
  iintro ⟨#HR, Hh, Hwk⟩ Hk
  iapply (wp_sends c (by omega : 6 < 7) n n' hSt) $$ [Hh Hwk]
  · isplitr; · iexact HR
    isplitl [Hh] <;> iassumption
  iintro ⟨H1, H2, Hk1, Hk2, HO, Hwk⟩
  ihave HO := (Entails.of_eq (by rw [Lane_end, Lane_end, add_zero] :
    due (F := F) c (Lane false c (6 + 1) 6 + Lane true c (6 + 1) 6) = due c 0)) $$ HO
  iapply (wp_recvWait false c (by omega : 6 < 7) 7 6 6 7 (Above.zero _)) $$ [Hk1 HO]
  · isplitr; · iexact HR
    isplitl [Hk1] <;> iassumption
  iintro ⟨H3, Hk1, HO⟩
  iapply (wp_recvWait true c (by omega : 6 < 7) 7 6 6 7 (Above.zero _)) $$ [Hk2 HO]
  · isplitr; · iexact HR
    isplitl [Hk2] <;> iassumption
  iintro ⟨H4, Hk2, HO⟩
  iapply (hSt' fullShare K Q) $$ [H3 H4 Hwk]
  · isplitl [H3]; · iexact H3
    isplitl [H4] <;> iassumption
  iintro ⟨H3, H4, Hwk⟩
  iapply Hk
  isplitr [Hwk]
  · isplitl [H1]; · iexact H1
    isplitl [H2]; · iexact H2
    isplitl [H3]; · iexact H3
    isplitl [H4]; · iexact H4
    isplitl [Hk1]; · iexact Hk1
    isplitl [Hk2] <;> iassumption
  · iexact Hwk

end Cert.RingProof

end
-- ==== Proof.Program.lean ====
/-
The body as a program

The kernel's body, with its parts put together, is the sequence of operations that the rules speak about; and its triple.
-/
module

public import proofs.«01_k».proof.Proof.Round

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The products of hop `r + 1`. -/
abbrev prods (c : Dev nD) (r : Fin 7) (k : PUnit.{1} → Pr F) : Pr F :=
  halvesOp (r.val + 1) (k0_off2 c (BitVec.ofNat 32 (1 + r.rev.val)) (BitVec.ofNat 32 (256 * (0 : Fin 2).val)))
    (k0_off2 c (BitVec.ofNat 32 (1 + r.val)) (BitVec.ofNat 32 (256 * (1 : Fin 2).val))) (k0_off2_inb c r.rev 0) (k0_off2_inb c r 1) k

/-- The program of device `c`. -/
def program (c : Dev nD) : Pr F :=
  enterOp false c fun _ => enterOp true c fun _ => meetOp fun _ => topOp fun _ => botOp fun _ =>
  roundOp 0 c (ownOp (k0_off1 c) (k0_off1_inb c)) fun _ =>
  roundOp 1 c (prods c 0) fun _ => roundOp 2 c (prods c 1) fun _ => roundOp 3 c (prods c 2) fun _ =>
  roundOp 4 c (prods c 3) fun _ => roundOp 5 c (prods c 4) fun _ => lastOp c (prods c 5) (prods c 6) .ret

/-- Two programs are equal if their first operations are and what follows is. -/
theorem op_congr {α : Type} {β : Type} {e e' : TpuEff nD τ sig (Elt F) Λ₀ .tc β} {k k' : β → Prog (TpuEff nD τ sig (Elt F) Λ₀ .tc) α} (he : e = e') (hk : ∀ x, k x = k' x) :
    Prog.op e k = Prog.op e' k' := by subst he; exact congrArg _ (funext hk)

/-- A copy is the one to the device that its number names. -/
theorem send_congr (b : Bool) (h : ℕ) (c n : Dev nD) (hn : n = tgt b c) :
    (.enqueueDma (slotM b (sl h)) (.remote (Dev.tc (tgt b c) : Thread nD τ) (slotM b (sl (h + 1))) (.dma (sndS b (sl h))) (slot_isVmem b _))
      (.dma (rcvS b (sl (h + 1)))) ((View.wordExact_bits rfl).reshape _ _) ((View.wordExact_bits rfl).reshape _ _) ⟨⟨rfl, Or.inl rfl⟩, trivial⟩
      : TpuEff nD τ sig (Elt F) Λ₀ .tc PUnit.{1})
    = .enqueueDma (slotM b (sl h)) (.remote (Dev.tc n : Thread nD τ) (slotM b (sl (h + 1))) (.dma (sndS b (sl h))) (slot_isVmem b _))
      (.dma (rcvS b (sl (h + 1)))) ((View.wordExact_bits rfl).reshape _ _) ((View.wordExact_bits rfl).reshape _ _) ⟨⟨rfl, Or.inl rfl⟩, trivial⟩ := by
  subst hn; rfl

set_option maxHeartbeats 4000000 in
set_option maxRecDepth 65536 in
/-- The kernel's function on its own buffers is the program of rounds. -/
theorem body_program : cc0_body (F := F) (Memref.whole cc0_stg0_0) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    cc0_scratch2 cc0_scratch3 cc0_scratch4 cc0_scratch5 cc0_scratch6 cc0_scratch7 = Prog.op .deviceId fun c => program c := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel
  simp only [semSignalWord, semWaitWord, Prog.lift, Prog.bind_op, Prog.bind_ret, Prog.pure_eq_ret, Prog.bind_assoc, k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq]
  unfold program
  symm
  repeat (first | refine op_congr (send_congr _ _ _ _ (Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq]; rfl))) fun _ => ?_ | refine op_congr rfl fun _ => ?_)
  rfl

end Cert.RingProof

end
-- ==== Proof.Body.lean ====
/-
The body's triple

The whole program of one device, from the resources that the launch deals it to the closed cells and the finished output.
-/
module

public import proofs.«01_k».proof.Proof.Program
public import Idealize.ShloMosaic.Lib.Rounds.Family

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Closing the cells -/

/-- The round in which a cell stands at the end. -/
def endRound : Kd → ℕ
  | .bar => 1
  | .cr _ => 1
  | .snd _ s => 4 - s.val
  | .rcv _ s => 3 + s.val

/-- From its last round on a cell owes nobody a unit. -/
theorem duties_endRound (k : Kd) (r : ℕ) (h : endRound k ≤ r) : dutiesK k r = ∅ := by
  cases k with
  | bar => exact if_neg (by have : 1 ≤ r := h; omega)
  | cr b => exact if_neg (by have : 1 ≤ r := h; omega)
  | snd b s => exact if_neg (by have : 4 - s.val ≤ r := h; have := s.isLt; omega)
  | rcv b s => exact if_neg (by have : 3 + s.val ≤ r := h; have := s.isLt; omega)

/-- A family over the kinds, lane by lane. -/
def laneKinds (Φ : Kd → sProp 𝕄) (b : Bool) : sProp 𝕄 := iprop(Φ (.cr b) ∗ Φ (.snd b 0) ∗ Φ (.snd b 1) ∗ Φ (.rcv b 0) ∗ Φ (.rcv b 1))
omit [FloatOps F] in
/-- A product over the kinds of cell is the barrier's factor and each lane's. -/
theorem bigSep_Kd (Φ : Kd → sProp 𝕄) : bigSep Finset.univ Φ = iprop(Φ .bar ∗ laneKinds Φ false ∗ laneKinds Φ true) := by
  rw [bigSep_univ_eq_bigSepL allKd (by decide) allKd_nodup]
  show iprop(Φ .bar ∗ Φ (.cr false) ∗ Φ (.cr true) ∗ Φ (.snd false 0) ∗ Φ (.snd false 1) ∗ Φ (.snd true 0) ∗ Φ (.snd true 1)
      ∗ Φ (.rcv false 0) ∗ Φ (.rcv false 1) ∗ Φ (.rcv true 0) ∗ Φ (.rcv true 1)) = iprop(Φ .bar
      ∗ (Φ (.cr false) ∗ Φ (.snd false 0) ∗ Φ (.snd false 1) ∗ Φ (.rcv false 0) ∗ Φ (.rcv false 1))
      ∗ (Φ (.cr true) ∗ Φ (.snd true 0) ∗ Φ (.snd true 1) ∗ Φ (.rcv true 0) ∗ Φ (.rcv true 1)))
  refine BI.Entails.antisymm (show (_ : sProp 𝕄) ⊢ _ from ?_) (show (_ : sProp 𝕄) ⊢ _ from ?_)
  · iintro ⟨H0, H1, H2, H3, H4, H5, H6, H7, H8, H9, H10⟩
    isplitl [H0]; · iexact H0
    isplitl [H1 H3 H4 H7 H8]
    · isplitl [H1]; · iexact H1
      isplitl [H3]; · iexact H3
      isplitl [H4]; · iexact H4
      isplitl [H7] <;> iassumption
    isplitl [H2]; · iexact H2
    isplitl [H5]; · iexact H5
    isplitl [H6]; · iexact H6
    isplitl [H9] <;> iassumption
  · iintro ⟨H0, ⟨H1, H3, H4, H7, H8⟩, H2, H5, H6, H9, H10⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9] <;> iassumption

/-- At the end a lane's cells are at their last rounds. -/
theorem lane_positions (b : Bool) (c : Dev nD) :
    Keep (F := F) b c 7 7 6 6 7 ⊢ laneKinds (fun k => atPos ER (cell c k) (endRound k) ∅ 0) b := by
  unfold Keep cellAt laneKinds
  iintro ⟨⟨H1, -⟩, ⟨H2, -⟩, ⟨H3, -⟩, ⟨H4, -⟩, H5, -⟩
  isplitl [H5]; · iapply (Entails.of_eq (creditPos_six b c)); iexact H5
  isplitl [H2]; · iexact H2
  isplitl [H1]; · iexact H1
  isplitl [H3]; · iexact H3
  iexact H4

variable {X : Dev nD → Vec F S512x4096 .f32} {Wt : Dev nD → Vec F S4096x1024 .f32} {κ : Dev nD × Kd → ℕ} {ιs : Key → ℕ}
  {Q : PUnit.{1} → sProp (MT nD τ sig ℕ (Elt F) ℕ UU ℕ)}

/-- When every cell of a device has been waited through, the device takes all its counters back, at zero. -/
theorem close_all (c : Dev nD) :
    iprop(Rec X κ ιs ∗ bigSep Finset.univ fun k => atPos ER (cell c k) (endRound k) ∅ 0)
      ⊢ |={Set.univ}=> bigSep Finset.univ fun k : Kd => semVal (cell c k) 0 := by
  refine BIBase.Entails.trans ?_ (Rounds.cells_close ER (Rd X) Finset.univ (cell c) (fun k => κ (c, k)) (fun _ _ => Set.mem_univ _) (fun _ _ h => h) endRound
    (fun k _ r hr => by rw [Rd_duties]; exact duties_endRound k r hr))
  rw [bigSep_sep']
  iintro ⟨#HR, H⟩
  isplitr
  · iapply (show Rec X κ ιs ⊢ bigSep Finset.univ fun k : Kd => cellInv ER (Rd X) (κ (c, k)) (cell c k) from
      (BI.bigSep_of_persistent Finset.univ (Rec X κ ιs)).trans (bigSep_mono fun k _ => Rec_cell c k))
    iexact HR
  · iexact H

/-! ## The program -/

/-- What device `c` starts from, besides what all know. -/
def starts (c : Dev nD) : sProp 𝕄 :=
  iprop(barTok false c ∗ barTok true c ∗ atPos ER (cell c .bar) 0 ∅ 0 ∗ cred (tallyAt (cell c .bar) 1 2)
    ∗ Keep false c 0 0 0 0 0 ∗ Keep true c 0 0 0 0 0)

/-- A buffer of a lane, whatever it holds. -/
def bufAny (b : Bool) (c : Dev nD) : sProp 𝕄 := iprop(∃ f : Buf (Elt F) ((c : Thread nD τ).loc (scr b)), (c : Thread nD τ).loc (scr b) ↦{fullShare} f)

/-- The two products of round `r + 1` are the stores numbered `2 r + 1` and `2 r + 2`. -/
theorem makes_prods (c : Dev nD) (r : Fin 7) : Makes X Wt c (r.val + 1) (2 * r.val + 1) (2 * r.val + 3) (prods (F := F) c r) := by
  have h := makes_halves (X := X) (Wt := Wt) c (h := r.val + 1) (by omega) (by have := r.isLt; omega) _ _ (k0_off2_inb c r.rev 0) (k0_off2_inb c r 1)
    (by
      rw [k0_off2_eq]
      have hr := r.isLt
      have hc := c.isLt
      simp only [nD] at hc
      congr 1
      show 512 * ((c.val + r.rev.val + 1) % 8) + 256 * 0 = 512 * ((c.val + 7 * (r.val + 1)) % 8)
      rw [Fin.val_rev]; omega)
    (by
      rw [k0_off2_eq]
      congr 1)
  rw [show 2 * (r.val + 1) - 1 = 2 * r.val + 1 by omega, show 2 * (r.val + 1) + 1 = 2 * r.val + 3 by omega] at h
  exact h

set_option maxHeartbeats 1600000 in
/-- The body's triple: from what the launch deals and both double buffers, the program makes all fifteen stores, and ends owing
    nothing, with its counters at zero. -/
theorem wp_program (c : Dev nD) :
    iprop(Rec X κ ιs ∗ starts c ∗ bufAny false c ∗ bufAny true c ∗ due c (O₀ c) ∗ work X Wt c 0)
      ⊢ iprop(((bufAny false c ∗ bufAny true c ∗ (bigSep Finset.univ fun k : Kd => semVal (cell c k) 0) ∗ due c 0 ∗ work X Wt c 15) -∗ Q ⟨⟩)
          -∗ run c (program c) Q) := by
  unfold starts bufAny O₀ program
  iintro ⟨#HR, ⟨Ht1, Ht2, Hat, Hcb, Hk1, Hk2⟩, Hb1, Hb2, HO, Hwk⟩ Hk
  ihave Hb1 := (buf_split false c) $$ Hb1
  icases Hb1 with ⟨Ha1, Hn1⟩
  ihave Hb2 := (buf_split true c) $$ Hb2
  icases Hb2 with ⟨Ha2, Hn2⟩
  iapply (wp_enter false c) $$ [Hn1 Ht1 HO]
  · isplitr; · iexact HR
    isplitl [Hn1]; · iexact Hn1
    isplitl [Ht1] <;> iassumption
  iintro HO
  iapply (wp_enter true c) $$ [Hn2 Ht2 HO]
  · isplitr; · iexact HR
    isplitl [Hn2]; · iexact Hn2
    isplitl [Ht2] <;> iassumption
  iintro HO
  iapply (wp_meet c (both_above c (n := 1) (p := 0) (r := 0) (p' := 0) (r' := 0) (by omega) (by omega) (by omega) (by omega))) $$ [Hat Hcb HO]
  · isplitr; · iexact HR
    isplitl [Hat]; · iexact Hat
    isplitl [Hcb] <;> iassumption
  iintro ⟨Hg1, Hg2, Hat, HO⟩
  ihave Hwk := (Entails.of_eq (by unfold work; rfl : work X Wt c 0 = iprop(xPt X c ∗ wPt Wt c ∗ outSt X Wt c 0))) $$ Hwk
  icases Hwk with ⟨Hx, Hwk⟩
  iapply (wp_top c) $$ [Hx Ha1]
  · isplitl [Hx] <;> iassumption
  iintro ⟨Hx, H1⟩
  iapply (wp_bot c) $$ [Hx Ha2]
  · isplitl [Hx] <;> iassumption
  iintro ⟨Hx, H2⟩
  ihave Hwk : work X Wt c 0 $$ [Hx Hwk]
  · unfold work; isplitl [Hx] <;> iassumption
  ihave Hh : atHop X c 0 $$ [H1 H2 Hg1 Hg2 Hk1 Hk2 HO]
  · unfold atHop
    isplitl [H1]; · iexact H1
    isplitl [H2]; · iexact H2
    isplitl [Hg1]; · iexact Hg1
    isplitl [Hg2]; · iexact Hg2
    isplitl [Hk1]; · iexact Hk1
    isplitl [Hk2] <;> iassumption
  iapply (wp_round c (h := 0) (by omega) 0 1 (makes_own c _ _ (k0_off1_eq c))) $$ [Hh Hwk]
  · isplitr; · iexact HR
    isplitl [Hh] <;> iassumption
  iintro ⟨Hh, Hwk⟩
  iapply (wp_round c (h := 1) (by omega) 1 3 (makes_prods c 0)) $$ [Hh Hwk]
  · isplitr; · iexact HR
    isplitl [Hh] <;> iassumption
  iintro ⟨Hh, Hwk⟩
  iapply (wp_round c (h := 2) (by omega) 3 5 (makes_prods c 1)) $$ [Hh Hwk]
  · isplitr; · iexact HR
    isplitl [Hh] <;> iassumption
  iintro ⟨Hh, Hwk⟩
  iapply (wp_round c (h := 3) (by omega) 5 7 (makes_prods c 2)) $$ [Hh Hwk]
  · isplitr; · iexact HR
    isplitl [Hh] <;> iassumption
  iintro ⟨Hh, Hwk⟩
  iapply (wp_round c (h := 4) (by omega) 7 9 (makes_prods c 3)) $$ [Hh Hwk]
  · isplitr; · iexact HR
    isplitl [Hh] <;> iassumption
  iintro ⟨Hh, Hwk⟩
  iapply (wp_round c (h := 5) (by omega) 9 11 (makes_prods c 4)) $$ [Hh Hwk]
  · isplitr; · iexact HR
    isplitl [Hh] <;> iassumption
  iintro ⟨Hh, Hwk⟩
  iapply (wp_last c 11 13 15 (makes_prods c 5) (makes_prods c 6)) $$ [Hh Hwk]
  · isplitr; · iexact HR
    isplitl [Hh] <;> iassumption
  unfold atEnd
  iintro ⟨⟨H1, H2, H3, H4, Hk1, Hk2, HO⟩, Hwk⟩
  ihave Hk1 := (lane_positions false c) $$ Hk1
  ihave Hk2 := (lane_positions true c) $$ Hk2
  ihave Hall : (bigSep Finset.univ fun k => atPos ER (cell c k) (endRound k) ∅ 0) $$ [Hat Hk1 Hk2]
  · iapply (Entails.of_eq (bigSep_Kd (F := F) fun k => atPos ER (cell c k) (endRound k) ∅ 0).symm)
    isplitl [Hat]; · iexact Hat
    isplitl [Hk1] <;> iassumption
  imod (close_all (X := X) (κ := κ) (ιs := ιs) c) $$ [Hall] with Hz
  · isplitr; · iexact HR
    iexact Hall
  rw [wp_ret]; imodintro
  iapply Hk
  unfold holds
  isplitl [H1 H3]
  · iapply (buf_join false c)
    isplitl [H1]
    · iapply (slotPt_any false 0 c); iexact H1
    · iapply (slotPt_any false 1 c); iexact H3
  isplitl [H2 H4]
  · iapply (buf_join true c)
    isplitl [H2]
    · iapply (slotPt_any true 0 c); iexact H2
    · iapply (slotPt_any true 1 c); iexact H4
  isplitl [Hz]; · iexact Hz
  isplitl [HO] <;> iassumption

end Cert.RingProof

end
-- ==== Proof.Deal.lean ====
/-
What the launch deals

One launch element holds the round state of all the cells, the tokens of all the duties and the state of all the
released slots. It is taken apart here, and dealt round the ring: a device gets the tokens of the duties that it pays, which
are duties of its neighbours' cells.
-/
module

public import proofs.«01_k».proof.Proof.Body

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families by device, lane and hop -/

/-- The hops below `n` of both lanes of all devices. -/
def idx (n : ℕ) : Finset Key := Finset.univ ×ˢ Finset.univ ×ˢ Finset.range n

omit [FloatOps F] in
/-- A product over the two lanes. -/
theorem bigSep_bool (Φ : Bool → sProp 𝕄) : bigSep Finset.univ Φ = iprop(Φ false ∗ Φ true) :=
  bigSep_univ_eq_bigSepL [false, true] (by decide) (by decide) Φ

omit [FloatOps F] in
/-- A family over pairs, row by row. -/
theorem bigSep_rows {A B : Type} (s : Finset A) (t : Finset B) (Φ : A × B → sProp 𝕄) :
    bigSep (s ×ˢ t) Φ = bigSep s fun a => bigSep t fun b => Φ (a, b) := by
  classical
  refine Finset.induction_on s (by rw [Finset.empty_product, bigSep_empty, bigSep_empty]) fun a s ha ih => ?_
  have hrow : insert a s ×ˢ t = t.map ⟨fun b => (a, b), fun b b' h => congrArg Prod.snd h⟩ ∪ s ×ˢ t := by
    ext p
    rw [Finset.mem_union, Finset.mem_product, Finset.mem_insert, Finset.mem_product, Finset.mem_map]
    refine ⟨fun h => h.1.elim (fun h1 => Or.inl ⟨p.2, h.2, Prod.ext h1.symm rfl⟩) fun h1 => Or.inr ⟨h1, h.2⟩, fun h => ?_⟩
    rcases h with ⟨z, hz, rfl⟩ | h
    · exact ⟨Or.inl rfl, hz⟩
    · exact ⟨Or.inr h.1, h.2⟩
  have hdis : Disjoint (t.map ⟨fun b => (a, b), fun b b' h => congrArg Prod.snd h⟩) (s ×ˢ t) := by
    rw [Finset.disjoint_left]
    intro p hp hq
    obtain ⟨z, _, rfl⟩ := Finset.mem_map.mp hp
    exact ha (Finset.mem_product.mp hq).1
  rw [hrow, bigSep_union hdis, bigSep_map, ih, bigSep_insert ha]
  rfl

omit [FloatOps F] in
/-- A family by device, lane and hop, dealt lane by lane along bijections of the devices. -/
theorem deal (e : Bool → Dev nD ≃ Dev nD) (n : ℕ) (Φ : Dev nD → Bool → ℕ → sProp 𝕄) :
    bigSep (idx n) (fun x => Φ x.1 x.2.1 x.2.2)
      = bigSep Finset.univ fun c : Dev nD => bigSep Finset.univ fun b : Bool => bigSep (Finset.range n) (Φ (e b c) b) := by
  unfold idx
  rw [bigSep_rows, bigSep_congr (s := Finset.univ)
    (Ψ := fun c : Dev nD => iprop(bigSep (Finset.range n) (Φ c false) ∗ bigSep (Finset.range n) (Φ c true)))
    (fun c _ => by rw [bigSep_rows, bigSep_bool]), bigSep_sep',
    bigSep_univ_equiv (e false) fun c => bigSep (Finset.range n) (Φ c false), bigSep_univ_equiv (e true) fun c => bigSep (Finset.range n) (Φ c true),
    ← bigSep_sep']
  exact bigSep_congr fun c _ => (bigSep_bool fun b => bigSep (Finset.range n) (Φ (e b c) b)).symm

/-! ## The tokens -/

/-- The duties of a family, by lane and hop: the kind of cell, the round, the number in the round. -/
abbrev Fam : Type := Bool → ℕ → Kd × ℕ × ℕ
/-- The barrier's tokens, -/
def famBar : Fam := fun b j => (.bar, j, b.toNat)
/-- the credits', -/
def famCr : Fam := fun b j => (.cr b, 0, j)
/-- the send waits', -/
def famSnd : Fam := fun b j => (.snd b (sl j), j / 2, 0)
/-- and the landings'. -/
def famRcv : Fam := fun b j => (.rcv b (sl (j + 1)), j / 2, 0)

/-- The duty itself, on a device. -/
def tokOf (f : Fam) (x : Key) : GSem nD τ sig × ℕ × ℕ := (cell x.1 (f x.2.1 x.2.2).1, (f x.2.1 x.2.2).2.1, (f x.2.1 x.2.2).2.2)

/-- Tokens that are equal belong to the same device and have equal entries. -/
theorem tokOf_kd {f g : Fam} {x y : Key} (h : tokOf f x = tokOf g y) : x.1 = y.1 ∧ f x.2.1 x.2.2 = g y.2.1 y.2.2 := by
  have h0 := congrArg Prod.fst h
  have h1 := congrArg Prod.snd h
  have h2 : (x.1, (f x.2.1 x.2.2).1) = (y.1, (g y.2.1 y.2.2).1) := cell_injective h0
  exact ⟨congrArg (fun p : Dev nD × Kd => p.1) h2, Prod.ext (congrArg (fun p : Dev nD × Kd => p.2) h2) h1⟩

/-- A family whose entries are distinct makes distinct tokens. -/
theorem tokOf_injective {f : Fam} (hf : ∀ b j b' j', f b j = f b' j' → b = b' ∧ j = j') : Function.Injective (tokOf f) := fun x y h => by
  obtain ⟨h1, h2⟩ := tokOf_kd h
  obtain ⟨h3, h4⟩ := hf _ _ _ _ h2
  exact Prod.ext h1 (Prod.ext h3 h4)

/-- The barrier's entries are distinct, -/
theorem famBar_inj (b : Bool) (j : ℕ) (b' : Bool) (j' : ℕ) (h : famBar b j = famBar b' j') : b = b' ∧ j = j' := by
  have h1 : j = j' := congrArg (fun x : Kd × ℕ × ℕ => x.2.1) h
  have h2 : b.toNat = b'.toNat := congrArg (fun x : Kd × ℕ × ℕ => x.2.2) h
  exact ⟨by revert h2; cases b <;> cases b' <;> simp, h1⟩
/-- and the credits', -/
theorem famCr_inj (b : Bool) (j : ℕ) (b' : Bool) (j' : ℕ) (h : famCr b j = famCr b' j') : b = b' ∧ j = j' := by
  have h1 : j = j' := congrArg (fun x : Kd × ℕ × ℕ => x.2.2) h
  have h2 : Kd.cr b = Kd.cr b' := congrArg (fun x : Kd × ℕ × ℕ => x.1) h
  exact ⟨by injection h2, h1⟩
/-- and the send waits', -/
theorem famSnd_inj (b : Bool) (j : ℕ) (b' : Bool) (j' : ℕ) (h : famSnd b j = famSnd b' j') : b = b' ∧ j = j' := by
  have h1 : j / 2 = j' / 2 := congrArg (fun x : Kd × ℕ × ℕ => x.2.1) h
  have h2 : Kd.snd b (sl j) = Kd.snd b' (sl j') := congrArg (fun x : Kd × ℕ × ℕ => x.1) h
  injection h2 with h3 h4
  have h5 : j % 2 = j' % 2 := congrArg Fin.val h4
  exact ⟨h3, by omega⟩
/-- and the landings'. -/
theorem famRcv_inj (b : Bool) (j : ℕ) (b' : Bool) (j' : ℕ) (h : famRcv b j = famRcv b' j') : b = b' ∧ j = j' := by
  have h1 : j / 2 = j' / 2 := congrArg (fun x : Kd × ℕ × ℕ => x.2.1) h
  have h2 : Kd.rcv b (sl (j + 1)) = Kd.rcv b' (sl (j' + 1)) := congrArg (fun x : Kd × ℕ × ℕ => x.1) h
  injection h2 with h3 h4
  have h5 : (j + 1) % 2 = (j' + 1) % 2 := congrArg Fin.val h4
  exact ⟨h3, by omega⟩

/-- The duties of a family for the hops below `n`. -/
def toks (f : Fam) (hf : ∀ b j b' j', f b j = f b' j' → b = b' ∧ j = j') (n : ℕ) : Finset (GSem nD τ sig × ℕ × ℕ) :=
  (idx n).map ⟨tokOf f, tokOf_injective hf⟩

/-- Families on different kinds of cell share no token. -/
theorem toks_disjoint {f g : Fam} {hf hg} {n n' : ℕ} (h : ∀ b j b' j', (f b j).1 ≠ (g b' j').1) : Disjoint (toks f hf n) (toks g hg n') := by
  rw [Finset.disjoint_left]
  intro x hx hy
  obtain ⟨p, -, rfl⟩ := Finset.mem_map.mp hx
  obtain ⟨q, -, hq⟩ := Finset.mem_map.mp hy
  exact h _ _ _ _ (congrArg Prod.fst (tokOf_kd hq).2).symm

/-- All the tokens of the ring. -/
def ringToks : Finset (GSem nD τ sig × ℕ × ℕ) :=
  toks famBar famBar_inj 1 ∪ (toks famCr famCr_inj 6 ∪ (toks famSnd famSnd_inj 7 ∪ toks famRcv famRcv_inj 7))

/-- One duty's token. -/
abbrev tokAt (f : Fam) (c : Dev nD) (b : Bool) (j : ℕ) : sProp 𝕄 := dutyTok ER (cell c (f b j).1) (f b j).2.1 (f b j).2.2

omit [FloatOps F] in
/-- A family's tokens, dealt lane by lane. -/
theorem toks_deal (f : Fam) (hf) (n : ℕ) (e : Bool → Dev nD ≃ Dev nD) :
    bigSep (toks f hf n) (fun x => (dutyTok ER x.1 x.2.1 x.2.2 : sProp 𝕄))
      = bigSep Finset.univ fun c : Dev nD => bigSep Finset.univ fun b : Bool => bigSep (Finset.range n) (tokAt f (e b c) b) := by
  unfold toks
  rw [bigSep_map]
  exact deal (F := F) e n fun c b j => tokAt f c b j

omit [FloatOps F] in
/-- All the tokens, each with the device that pays the duty. -/
theorem ringToks_deal :
    bigSep ringToks (fun x => (dutyTok ER x.1 x.2.1 x.2.2 : sProp 𝕄))
      = iprop((bigSep Finset.univ fun c : Dev nD => bigSep Finset.univ fun b : Bool => bigSep (Finset.range 1) (tokAt famBar (org b c) b))
        ∗ (bigSep Finset.univ fun c : Dev nD => bigSep Finset.univ fun b : Bool => bigSep (Finset.range 6) (tokAt famCr (org b c) b))
        ∗ (bigSep Finset.univ fun c : Dev nD => bigSep Finset.univ fun b : Bool => bigSep (Finset.range 7) (tokAt famSnd c b))
        ∗ (bigSep Finset.univ fun c : Dev nD => bigSep Finset.univ fun b : Bool => bigSep (Finset.range 7) (tokAt famRcv (tgt b c) b))) := by
  have d1 : Disjoint (toks famSnd famSnd_inj 7) (toks famRcv famRcv_inj 7) := toks_disjoint fun _ _ _ _ h => Kd.noConfusion h
  have d2 : Disjoint (toks famCr famCr_inj 6) (toks famSnd famSnd_inj 7 ∪ toks famRcv famRcv_inj 7) :=
    Finset.disjoint_union_right.mpr ⟨toks_disjoint fun _ _ _ _ h => Kd.noConfusion h, toks_disjoint fun _ _ _ _ h => Kd.noConfusion h⟩
  have d3 : Disjoint (toks famBar famBar_inj 1) (toks famCr famCr_inj 6 ∪ (toks famSnd famSnd_inj 7 ∪ toks famRcv famRcv_inj 7)) :=
    Finset.disjoint_union_right.mpr ⟨toks_disjoint fun _ _ _ _ h => Kd.noConfusion h, Finset.disjoint_union_right.mpr
      ⟨toks_disjoint fun _ _ _ _ h => Kd.noConfusion h, toks_disjoint fun _ _ _ _ h => Kd.noConfusion h⟩⟩
  unfold ringToks
  rw [bigSep_union d3, bigSep_union d2, bigSep_union d1, toks_deal famBar famBar_inj 1 fun b => (ring b).symm,
    toks_deal famCr famCr_inj 6 fun b => (ring b).symm, toks_deal famSnd famSnd_inj 7 fun _ => Equiv.refl _, toks_deal famRcv famRcv_inj 7 ring]
  rfl

/-! ## What one device holds -/

/-- What a lane of a device holds of the launch element. -/
def laneGhost (c : Dev nD) (b : Bool) : sProp 𝕄 :=
  iprop(barTok b c ∗ bigSep (Finset.range 7) (sendTok b c) ∗ bigSep (Finset.range 6) (credTok b c))

omit [FloatOps F] in
/-- The tokens of a lane, put together. -/
theorem laneGhost_intro (c : Dev nD) (b : Bool) :
    iprop(bigSep (Finset.range 1) (tokAt famBar (org b c) b) ∗ bigSep (Finset.range 6) (tokAt famCr (org b c) b)
        ∗ bigSep (Finset.range 7) (tokAt famSnd c b) ∗ bigSep (Finset.range 7) (tokAt famRcv (tgt b c) b)
        ∗ (bigSep (Finset.range 7) fun j => Release.readerAt ES ((c, b, j) : Key) 0)
        ∗ (bigSep (Finset.range 7) fun j => Release.writeTok ES ((tgt b c, b, j) : Key) 1))
      ⊢ (laneGhost c b : sProp 𝕄) := by
  have hr : (bigSep (Finset.range 7) fun j => (Release.readerAt ES ((c, b, j) : Key) 0 : sProp 𝕄))
      = iprop(Release.readerAt ES ((c, b, 0) : Key) 0 ∗ bigSep (Finset.range 6) fun j => Release.readerAt ES ((c, b, j + 1) : Key) 0) := by
    rw [show Finset.range 7 = insert 0 ((Finset.range 6).map ⟨Nat.succ, Nat.succ_injective⟩) by decide, bigSep_insert (by decide), bigSep_map]
    rfl
  have h1 : bigSep (Finset.range 1) (tokAt famBar (org b c) b) = (tokAt famBar (org b c) b 0 : sProp 𝕄) := by
    rw [Finset.range_one, bigSep_singleton]
  rw [hr, h1]
  unfold laneGhost barTok
  rw [show sendTok (F := F) b c = fun j => iprop(tokAt famSnd c b j ∗ tokAt famRcv (tgt b c) b j ∗ Release.writeTok ES ((tgt b c, b, j) : Key) 1) from rfl,
    show credTok (F := F) b c = fun j => iprop(tokAt famCr (org b c) b j ∗ Release.readerAt ES ((c, b, j + 1) : Key) 0) from rfl,
    bigSep_sep', bigSep_sep', bigSep_sep']
  iintro ⟨H1, H2, H3, H4, ⟨H5, H6⟩, H7⟩
  isplitl [H1 H5]
  · isplitl [H1]; · iexact H1
    iexact H5
  isplitl [H3 H4 H7]
  · isplitl [H3]; · iexact H3
    isplitl [H4]; · iexact H4
    iexact H7
  isplitl [H2]; · iexact H2
  iexact H6

omit [FloatOps F] in
/-- The same for all devices and lanes at once. -/
theorem ghosts_intro :
    iprop(bigSep ringToks (fun x => dutyTok ER x.1 x.2.1 x.2.2) ∗ (bigSep keys fun k => Release.readerAt ES k 0)
        ∗ bigSep keys fun k => Release.writeTok ES k 1)
      ⊢ (bigSep Finset.univ fun c : Dev nD => bigSep Finset.univ fun b : Bool => laneGhost c b : sProp 𝕄) := by
  rw [ringToks_deal,
    show (bigSep keys fun k => (Release.readerAt ES k 0 : sProp 𝕄)) = _ from deal (F := F) (fun _ => Equiv.refl _) 7 fun c b j => Release.readerAt ES ((c, b, j) : Key) 0,
    show (bigSep keys fun k => (Release.writeTok ES k 1 : sProp 𝕄)) = _ from deal (F := F) ring 7 fun c b j => Release.writeTok ES ((c, b, j) : Key) 1]
  refine BIBase.Entails.trans ?_ (bigSep_mono fun c _ => bigSep_mono fun b _ => laneGhost_intro c b)
  simp only [bigSep_sep']
  iintro ⟨⟨H1, H2, H3, H4⟩, H5, H6⟩
  isplitl [H1]; · iexact H1
  isplitl [H2]; · iexact H2
  isplitl [H3]; · iexact H3
  isplitl [H4]; · iexact H4
  isplitl [H5]; · iexact H5
  iexact H6

/-! ## The launch credit -/

/-- The credits of a lane's waits. -/
def laneCreds (c : Dev nD) (b : Bool) : sProp 𝕄 := iprop(stock (rcvCred b c) 0 7 ∗ stock (crCred b c) 0 6)

omit [FloatOps F] in
/-- What the launch credits a lane for the units that will come to it. -/
theorem lane_creds (c : Dev nD) (b : Bool) : (Pipeline.launchCred (fun d => Lane b d 0 0) c : sProp 𝕄) ⊢ laneCreds c b := by
  unfold Lane laneCreds stock
  rw [Pipeline.launchCred_add, Pipeline.launchCred_sum, Pipeline.launchCred_sum]
  iintro ⟨H1, H2⟩
  isplitl [H2]
  · iapply (show bigSep (Finset.Ico 0 7) _ ⊢ bigSep (Finset.Ico 0 7) (rcvCred b c) from bigSep_mono fun j _ => Pipeline.launchCred_tallyAt (locOf (.rcv b (sl (j + 1)))) (tgt b) (org b) (tgt_org b) (org_tgt b) (2 * j + 2) N c)
    iexact H2
  · iapply (show bigSep (Finset.Ico 0 6) _ ⊢ bigSep (Finset.Ico 0 6) (crCred b c) from bigSep_mono fun j _ => Pipeline.launchCred_tallyAt (locOf (.cr b)) (org b) (tgt b) (org_tgt b) (tgt_org b) (2 * j + 3) 1 c)
    iexact H1

omit [FloatOps F] in
/-- What the launch credits a device for the barrier unit that one neighbour sends. -/
theorem bar_cred (c : Dev nD) (b : Bool) : (Pipeline.launchCred (fun d => Obar b d) c : sProp 𝕄) ⊢ cred (tallyAt (cell c .bar) 1 1) :=
  Pipeline.launchCred_tallyAt (locOf .bar) (org b) (tgt b) (org_tgt b) (tgt_org b) 1 1 c

omit [FloatOps F] in
/-- Everything owed to a device's cells, as the credits of its waits. -/
theorem creds (c : Dev nD) : (Pipeline.launchCred O₀ c : sProp 𝕄)
    ⊢ iprop(cred (tallyAt (cell c .bar) 1 2) ∗ laneCreds c false ∗ laneCreds c true) := by
  rw [show (O₀ : Dev nD → CellTallies nD τ sig ℕ) = fun d => Lane false d 0 0 + Lane true d 0 0 + Obar true d + Obar false d from rfl,
    Pipeline.launchCred_add, Pipeline.launchCred_add, Pipeline.launchCred_add]
  iintro ⟨⟨⟨H1, H2⟩, H3⟩, H4⟩
  ihave H1 := (lane_creds c false) $$ H1
  ihave H2 := (lane_creds c true) $$ H2
  ihave H3 := (bar_cred c true) $$ H3
  ihave H4 := (bar_cred c false) $$ H4
  isplitl [H3 H4]
  · rw [show (tallyAt (cell c .bar) 1 2 : CellTallies nD τ sig ℕ) = tallyAt (cell c .bar) 1 1 + tallyAt (cell c .bar) 1 1 from (tallyAt_add _ _ 1 1).symm]
    iapply (cred_add _ _).2
    isplitl [H3] <;> iassumption
  isplitl [H1] <;> iassumption

/-! ## What the program starts from -/

variable {X : Dev nD → Vec F S512x4096 .f32} {κ : Dev nD × Kd → ℕ} {ιs : Key → ℕ}

/-- A cell at its start. -/
theorem cellAt_intro (c : Dev nD) (k : Kd) : iprop(Rec X κ ιs ∗ atPos ER (cell c k) 0 ∅ 0) ⊢ cellAt c k 0 := by
  unfold cellAt
  iintro ⟨#HR, H⟩
  isplitl [H]; · iexact H
  iapply (Rec_reached c k); iexact HR

/-- What a lane keeps for its copies and credits, at the start. -/
theorem keep_intro (c : Dev nD) (b : Bool) :
    iprop(Rec X κ ιs ∗ laneKinds (fun k => atPos ER (cell c k) 0 ∅ 0) b ∗ bigSep (Finset.range 7) (sendTok b c) ∗ bigSep (Finset.range 6) (credTok b c)
        ∗ laneCreds c b) ⊢ Keep (F := F) b c 0 0 0 0 0 := by
  unfold Keep laneKinds laneCreds
  rw [creditPos_lt b c (by decide), Finset.range_zero, bigSep_empty, Finset.range_eq_Ico, Finset.range_eq_Ico]
  iintro ⟨#HR, ⟨H1, H2, H3, H4, H5⟩, Hs, Hc, Hr, Hk⟩
  isplitl [H2]
  · iapply (cellAt_intro (X := X) (κ := κ) (ιs := ιs) c (.snd b 0)); isplitr; · iexact HR
    iexact H2
  isplitl [H3]
  · iapply (cellAt_intro (X := X) (κ := κ) (ιs := ιs) c (.snd b 1)); isplitr; · iexact HR
    iexact H3
  isplitl [H5]
  · iapply (cellAt_intro (X := X) (κ := κ) (ιs := ιs) c (.rcv b 1)); isplitr; · iexact HR
    iexact H5
  isplitl [H4]
  · iapply (cellAt_intro (X := X) (κ := κ) (ιs := ιs) c (.rcv b 0)); isplitr; · iexact HR
    iexact H4
  isplitl [H1]
  · iexists ∅
    isplitr; · (ipureintro; exact Finset.empty_subset _)
    isplitl [H1]; · iexact H1
    rw [bigSep_empty]; iempintro
  isplitr; · iempintro
  isplitl [Hs]; · unfold stock; iexact Hs
  isplitl [Hr]; · iexact Hr
  isplitl [Hc]; · unfold stock; iexact Hc
  iexact Hk

/-- What the launch deals to a device is what its program starts from. -/
theorem starts_intro (c : Dev nD) :
    iprop(Rec X κ ιs ∗ (bigSep Finset.univ fun k : Kd => atPos ER (cell c k) 0 ∅ 0) ∗ (bigSep Finset.univ fun b : Bool => laneGhost c b)
        ∗ cred (tallyAt (cell c .bar) 1 2) ∗ laneCreds c false ∗ laneCreds c true) ⊢ starts (F := F) c := by
  rw [bigSep_Kd, bigSep_bool]
  unfold starts laneGhost
  iintro ⟨#HR, ⟨H0, H1, H2⟩, ⟨⟨Hb1, Hs1, Hc1⟩, ⟨Hb2, Hs2, Hc2⟩⟩, Hc, Hl1, Hl2⟩
  isplitl [Hb1]; · iexact Hb1
  isplitl [Hb2]; · iexact Hb2
  isplitl [H0]; · iexact H0
  isplitl [Hc]; · iexact Hc
  isplitl [H1 Hs1 Hc1 Hl1]
  · iapply (keep_intro (X := X) (κ := κ) (ιs := ιs) c false)
    isplitr; · iexact HR
    isplitl [H1]; · iexact H1
    isplitl [Hs1]; · iexact Hs1
    isplitl [Hc1] <;> iassumption
  · iapply (keep_intro (X := X) (κ := κ) (ιs := ιs) c true)
    isplitr; · iexact HR
    isplitl [H2]; · iexact H2
    isplitl [Hs2]; · iexact Hs2
    isplitl [Hc2] <;> iassumption

end Cert.RingProof

end
-- ==== Proof.Glob.lean ====
/-
The shared state of the launch

All devices' semaphores and the launch element become the invariants that every device knows, and each device's share.
-/
module

public import proofs.«01_k».proof.Proof.Deal

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The kernel's own semaphores, lane by lane. -/
def osem : Fin 10 → SemLoc sig := fun
  | 0 => locOf (.cr false) | 1 => locOf (.snd false 0) | 2 => locOf (.snd false 1) | 3 => locOf (.rcv false 0) | 4 => locOf (.rcv false 1)
  | 5 => locOf (.cr true) | 6 => locOf (.snd true 0) | 7 => locOf (.snd true 1) | 8 => locOf (.rcv true 0) | 9 => locOf (.rcv true 1)

/-- The kernel's own counters are none of the pipeline's. -/
theorem ownSemFacts : Pipeline.OwnSemFacts cfg0.spec osem := by decide

omit [FloatOps F] in
/-- All the semaphores of the protocol on one device: the kernel's own and the barrier. -/
theorem sems0_eq (c : Dev nD) :
    iprop(Pipeline.ownSems0 (Ix := ℕ) (Name := ℕ) (U := UU) (Lvl := ℕ) (Val := Elt F) (τ := τ) osem c ∗ unscopedSems0 c)
      = (bigSep Finset.univ fun k : Kd => semVal (cell c k) 0 : sProp 𝕄) := by
  have hb : (unscopedSems0 c : sProp 𝕄) = semVal (cell c .bar) 0 := by
    unfold unscopedSems0; rw [bigSep_eq_bigSepL_of_eq [SemLoc.reg barrier0] (by decide) (by decide)]; rfl
  have ho : (Pipeline.ownSems0 (Ix := ℕ) (Name := ℕ) (U := UU) (Lvl := ℕ) (Val := Elt F) (τ := τ) osem c : sProp 𝕄)
      = iprop(semVal (cell c (.cr false)) 0 ∗ semVal (cell c (.snd false 0)) 0 ∗ semVal (cell c (.snd false 1)) 0
          ∗ semVal (cell c (.rcv false 0)) 0 ∗ semVal (cell c (.rcv false 1)) 0
          ∗ semVal (cell c (.cr true)) 0 ∗ semVal (cell c (.snd true 0)) 0 ∗ semVal (cell c (.snd true 1)) 0
          ∗ semVal (cell c (.rcv true 0)) 0 ∗ semVal (cell c (.rcv true 1)) 0) := by
    rw [Pipeline.ownSems0_eq_of_list c osem [0, 1, 2, 3, 4, 5, 6, 7, 8, 9] (by decide) (by decide)]; rfl
  rw [hb, ho, bigSep_Kd]
  unfold laneKinds
  refine BI.Entails.antisymm (show (_ : sProp 𝕄) ⊢ _ from ?_) (show (_ : sProp 𝕄) ⊢ _ from ?_)
  · iintro ⟨⟨H0, H1, H2, H3, H4, H5, H6, H7, H8, H9⟩, HB⟩
    isplitl [HB]; · iexact HB
    isplitl [H0 H1 H2 H3 H4]
    · isplitl [H0]; · iexact H0
      isplitl [H1]; · iexact H1
      isplitl [H2]; · iexact H2
      isplitl [H3] <;> iassumption
    · isplitl [H5]; · iexact H5
      isplitl [H6]; · iexact H6
      isplitl [H7]; · iexact H7
      isplitl [H8] <;> iassumption
  · iintro ⟨HB, ⟨H0, H1, H2, H3, H4⟩, H5, H6, H7, H8, H9⟩
    isplitr [HB]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8] <;> iassumption
    · iexact HB

/-! ## The launch element -/

/-- All the cells of the ring. -/
def ringCells : Finset (GSem nD τ sig) := Finset.univ.map ⟨fun p : Dev nD × Kd => cell p.1 p.2, cell_injective⟩

/-- The element of the protocol, -/
def ring₀ : UB := (initOf ringCells ringToks, Release.initSlots keys 1)
/-- and that of the launch: the staging pipeline's first. -/
def u₀ : UU := (initOf (Pipeline.cells cfgs cellOf_inj) (Pipeline.launchToks cfgs cellOf_inj), ring₀)

/-- It is handed to device 0. -/
def G (c : Dev nD) : sProp 𝕄 := if c = 0 then BI.own (EU ring₀) else iprop(emp)

variable (X : Dev nD → Vec F S512x4096 .f32)

/-- What all devices know of the cells and the slots. -/
def Rec₀ (κ : Dev nD × Kd → ℕ) (ιs : Key → ℕ) : sProp 𝕄 :=
  iprop((bigSep Finset.univ fun p : Dev nD × Kd => cellInv ER (Rd X) (κ p) (cell p.1 p.2))
    ∗ (bigSep Finset.univ fun p : Dev nD × Kd => reached ER (cell p.1 p.2) 0)
    ∗ (bigSep keys fun k => Release.slotInv ES (ιs k) k (keySlot k)))
/-- The shared record can be used again and again. -/
instance Rec₀_persistent (κ ιs) : BI.Persistent (Rec₀ X κ ιs) := by unfold Rec₀; infer_instance

/-- With the levels it is the record that the program reads. -/
theorem Rec_intro (κ ιs) : iprop(Rec₀ X κ ιs ∗ levAts L lv) ⊢ Rec X κ ιs := by
  unfold Rec₀ Rec
  iintro ⟨⟨H1, H2, H3⟩, H4⟩
  isplitl [H1]; · iexact H1
  isplitl [H2]; · iexact H2
  isplitl [H3] <;> iassumption

/-- A device's own share. -/
def share (c : Dev nD) : sProp 𝕄 :=
  iprop((bigSep Finset.univ fun k : Kd => atPos ER (cell c k) 0 ∅ 0) ∗ bigSep Finset.univ fun b : Bool => laneGhost c b)

/-- What the shared step makes for one device. -/
def G' (c : Dev nD) : sProp 𝕄 := iprop(∃ κ ιs, Rec₀ X κ ιs ∗ share c)

omit [FloatOps F] in
/-- What all may know goes to each. -/
theorem each_knows {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  iintro ⟨#HR, H⟩
  iapply (show bigSep S (fun i => iprop(R ∗ Φ i)) ⊢ bigSep S Ψ from bigSep_mono h)
  rw [bigSep_sep']
  isplitr
  · iapply (BI.bigSep_of_persistent S R); iexact HR
  · iexact H

/-- The cells' invariants, from their counters at zero and their states. -/
theorem cells_alloc :
    iprop((bigSep Finset.univ fun p : Dev nD × Kd => semVal (cell p.1 p.2) 0) ∗ bigSep Finset.univ fun p : Dev nD × Kd => roundState ER (Rd X) (cell p.1 p.2) 0)
      ⊢ |={Set.univ}=> iprop(∃ κ : Dev nD × Kd → ℕ, bigSep Finset.univ fun p : Dev nD × Kd => cellInv ER (Rd X) (κ p) (cell p.1 p.2)) := by
  rw [← bigSep_sep']
  exact ((bigSep_mono fun p _ => (Rounds.body_intro ER (Rd X) (cell p.1 p.2)).trans inv_alloc).trans (bigSep_fupd _ _)).trans
    (BI.fupd_mono (BI.bigSep_exists_pi Finset.univ fun (p : Dev nD × Kd) (κ : ℕ) => cellInv ER (Rd X) κ (cell p.1 p.2)))

omit [FloatOps F] in
/-- The initial ghost state is all with the first device. -/
theorem own_of_G : (bigSep Finset.univ (G (F := F))) ⊢ BI.own (EU ring₀) :=
  (bigSep_elim (Finset.mem_univ (0 : Dev nD))).trans (Entails.of_eq (show G (F := F) 0 = BI.own (EU ring₀) by unfold G; exact if_pos rfl))

omit [FloatOps F] in
/-- The counters that a device starts with are those of its cells. -/
theorem core_sems (c : Dev nD) :
    iprop(Pipeline.ownSems0 (Ix := ℕ) (Name := ℕ) (U := UU) (Lvl := ℕ) (Val := Elt F) (τ := τ) osem c ∗ unscopedSems0 c ∗ G c)
      ⊢ (iprop((bigSep Finset.univ fun k : Kd => semVal (cell c k) 0) ∗ G c) : sProp 𝕄) := by
  rw [← sems0_eq]
  iintro ⟨H1, H2, H3⟩
  isplitl [H1 H2]
  · isplitl [H1] <;> iassumption
  · iexact H3

/-- From all devices' counters and ghost state the cells and slots of the ring are set up, and each device gets its part. -/
theorem glob : (bigSep Finset.univ fun c => iprop(Pipeline.ownSems0 (Ix := ℕ) (Name := ℕ) (U := UU) (Lvl := ℕ) (Val := Elt F) (τ := τ) osem c ∗ unscopedSems0 c ∗ G c) : sProp 𝕄)
    ⊢ |={Set.univ}=> bigSep Finset.univ (G' X) := by
  have hX (Φ : GSem nD τ sig → sProp 𝕄) : bigSep ringCells Φ = bigSep Finset.univ fun p : Dev nD × Kd => Φ (cell p.1 p.2) := by
    unfold ringCells; rw [bigSep_map]; rfl
  have hsem : (bigSep Finset.univ fun c => iprop(Pipeline.ownSems0 (Ix := ℕ) (Name := ℕ) (U := UU) (Lvl := ℕ) (Val := Elt F) (τ := τ) osem c ∗ unscopedSems0 c ∗ G c) : sProp 𝕄)
      ⊢ iprop((bigSep Finset.univ fun p : Dev nD × Kd => semVal (cell p.1 p.2) 0) ∗ BI.own (EU ring₀)) := by
    refine BIBase.Entails.trans (bigSep_mono (Ψ := fun c => iprop((bigSep Finset.univ fun k : Kd => semVal (cell c k) 0) ∗ G c)) fun c _ => core_sems c) ?_
    · rw [bigSep_sep', bigSep_univ_prod]
      exact sep_mono_right own_of_G
  iintro H
  ihave H := hsem $$ H
  icases H with ⟨Hv, HU⟩
  unfold ring₀
  ihave HU := (own_pair_emb EU _ _) $$ HU
  icases HU with ⟨H1, H2⟩
  imod (Rounds.fund ER (Rd X) ringCells ringToks) $$ H1 with ⟨Hst, Hr, Hat, Htok⟩
  imod (Release.slots_init ES keys 1 keySlot) $$ H2 with ⟨%ιs, -, #Hinv, Hrd, Hwr⟩
  ihave Hst := (Entails.of_eq (hX fun g => roundState ER (Rd X) g 0)) $$ Hst
  ihave Hat := (Entails.of_eq (hX fun g => atPos ER g 0 ∅ 0)) $$ Hat
  ihave Hr := (Entails.of_eq (hX fun g => reached ER g 0)) $$ Hr
  ihave Hwr := (Entails.of_eq (show bigSep (keys ×ˢ Finset.range 1) (fun x => (Release.writeTok ES x.1 (x.2 + 1) : sProp 𝕄)) = bigSep keys fun k => Release.writeTok ES k 1 by
    rw [bigSep_rows]
    exact bigSep_congr fun k _ => by rw [Finset.range_one, bigSep_singleton])) $$ Hwr
  imod (cells_alloc X) $$ [Hv Hst] with ⟨%κ, #Hci⟩
  · isplitl [Hv] <;> iassumption
  ihave Hg := (ghosts_intro (F := F)) $$ [Htok Hrd Hwr]
  · isplitl [Htok]; · iexact Htok
    isplitl [Hrd] <;> iassumption
  imodintro
  iapply (each_knows (R := Rec₀ X κ ιs) (Φ := share) (Ψ := G' X) fun c _ => by
    unfold G'
    iintro ⟨H1, H2⟩
    iexists κ, ιs
    isplitl [H1] <;> iassumption)
  isplitl [Hr]
  · unfold Rec₀
    isplitr; · iexact Hci
    isplitl [Hr]; · iexact Hr
    iexact Hinv
  · unfold share
    rw [bigSep_sep']
    isplitl [Hat]
    · iapply (Entails.of_eq (bigSep_univ_prod fun p : Dev nD × Kd => (atPos ER (cell p.1 p.2) 0 ∅ 0 : sProp 𝕄)))
      iexact Hat
    · iexact Hg

end Cert.RingProof

end
-- ==== Proof.Launch.lean ====
/-
The launch

The staged pipeline around the body, and the run of the whole program, over any float values.
-/
module

public import proofs.«01_k».proof.Proof.Glob
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-- The memory at launch: arbitrary contents, every counter at zero. -/
def s₀ : MemSt nD τ sig (Elt F) := ⟨m, fun _ => 0, ρ⟩

/-- The staged block of `x` on device `c`, -/
def xIn (c : Dev nD) : Vec F S512x4096 .f32 := (win0_0.blk (0 : Fin 1)).view.read (Elt F) ((s₀ m ρ).mem ((c : Thread nD τ).loc main_arg0))
/-- and that of `w`. -/
def wIn (c : Dev nD) : Vec F S4096x1024 .f32 := (win0_1.blk (0 : Fin 1)).view.read (Elt F) ((s₀ m ρ).mem ((c : Thread nD τ).loc main_arg1))

/-- What the device holds when the body begins, -/
def start (c : Dev nD) : sProp 𝕄 := iprop(∃ κ ιs, Rec (xIn m ρ) κ ιs ∗ starts c)
/-- What the body needs besides its windows. -/
def Φ₀ (c : Dev nD) : sProp 𝕄 := iprop(start m ρ c ∗ bufAny false c ∗ bufAny true c)
/-- and when it has ended. -/
def Φ₁ (c : Dev nD) : sProp 𝕄 := iprop(bufAny false c ∗ bufAny true c ∗ bigSep Finset.univ fun k : Kd => semVal (cell c k) 0)

/-- The proof data of the one call. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xIn m ρ c
    | ⟨1, _⟩ => wIn m ρ c
    | ⟨2, _⟩ => outFinal (xIn m ρ) (wIn m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The pipeline holds its arrays whole. -/
theorem share_eq (c : Dev nD) (w : Fin cfg0.W) : (dats m ρ 0 c).share w = fullShare := by unfold Dat.share; split <;> rfl

omit [FloatOps F] in
/-- Owning a whole buffer with its contents, in the two spellings. -/
theorem owns_whole_eq (c : Dev nD) (b : Ref sig .tc) (Y : b.ty.Contents (Elt F)) :
    (owns (Ix := ℕ) (Name := ℕ) (U := UU) (Lvl := ℕ) (c : Thread nD τ) (Memref.whole b) fullShare Y : sProp 𝕄)
      = iprop(∃ f : Buf (Elt F) ((c : Thread nD τ).loc b), ⌜f = Y⌝ ∗ ((c : Thread nD τ).loc b) ↦{fullShare} f) := by
  unfold owns; simp only [Memref.view_whole, View.read_whole, View.set_whole]

/-- A staging buffer with contents `Y`. -/
abbrev stg (c : Dev nD) (b : Ref sig .tc) (Y : b.ty.Contents (Elt F)) : sProp 𝕄 :=
  iprop(∃ f : Buf (Elt F) ((c : Thread nD τ).loc b), ⌜f = Y⌝ ∗ ((c : Thread nD τ).loc b) ↦{fullShare} f)

/-- What the body is called with, -/
def bodyPre (c : Dev nD) : sProp 𝕄 :=
  iprop(Φ₀ m ρ c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- and what it leaves. -/
def bodyPost (c : Dev nD) : sProp 𝕄 :=
  iprop(Φ₁ c ∗ (dats m ρ 0 c).owesAt 0 t0_0.succ
    ∗ stg c cc0_stg0_0 (xIn m ρ c) ∗ stg c cc0_stg1_0 (wIn m ρ c) ∗ stg c cc0_stg2_0 (outFinal (xIn m ρ) (wIn m ρ) c))

set_option maxHeartbeats 800000 in
/-- The body on device `c`. -/
theorem sound_body (c : Dev nD) :
    bodyPre m ρ c ⊢ wp frame (wpE (defs₀ (F := F)) 𝒱₀ c none) Set.univ
      (cc0_body (F := F) (Memref.whole cc0_stg0_0) (Memref.isWhole_whole _) (Memref.whole cc0_stg1_0) (Memref.isWhole_whole _)
        (Memref.whole cc0_stg2_0) (Memref.isWhole_whole _) (Memref.whole cc0_scratch0) (Memref.isWhole_whole _) (Memref.whole cc0_scratch1) (Memref.isWhole_whole _)
        cc0_scratch2 cc0_scratch3 cc0_scratch4 cc0_scratch5 cc0_scratch6 cc0_scratch7) fun _ => bodyPost m ρ c := by
  rw [body_program]
  simp only [wp_deviceId]
  unfold bodyPre Φ₀ start
  iintro ⟨⟨⟨%κ, %ιs, #HR, Hs⟩, Hb1, Hb2⟩, Ho, ⟨%d0, %g0, %hg0, Hx⟩, ⟨%d1, %g1, %hg1, Hw⟩, ⟨%d2, %g2, -, Hout⟩⟩
  have hx : g0 = xIn m ρ c := by rw [hg0]; unfold Dat.before; rw [if_pos (fetch0_0 t0_0)]; rfl
  have hw : g1 = wIn m ρ c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl]
  iapply (wp_program (X := xIn m ρ) (Wt := wIn m ρ) (κ := κ) (ιs := ιs) c) $$ [Hs Hb1 Hb2 HO Hx Hw Hout]
  · isplitr; · iexact HR
    isplitl [Hs]; · iexact Hs
    isplitl [Hb1]; · iexact Hb1
    isplitl [Hb2]; · iexact Hb2
    isplitl [HO]; · unfold due; iexists W; iexact HO
    unfold work xPt wPt outSt
    isplitl [Hx]; · iexact Hx
    isplitl [Hw]; · iexact Hw
    iexists g2
    isplitr; · (ipureintro; exact fun i h => absurd h (Nat.not_lt_zero _))
    iexact Hout
  unfold due work xPt wPt outSt
  iintro ⟨Hb1, Hb2, Hz, ⟨%W', HO⟩, Hx, Hw, ⟨%g, %hg, Hout⟩⟩
  have hgo : g = outFinal (xIn m ρ) (wIn m ρ) c := funext fun i => hg i (noOf_lt c i)
  subst hgo
  unfold bodyPost Φ₁ Dat.owesAt Pipeline.owesWithin
  rw [show (dats m ρ 0 c).owed t0_0.succ = 0 from rfl]
  isplitl [Hb1 Hb2 Hz]
  · isplitl [Hb1]; · iexact Hb1
    isplitl [Hb2] <;> iassumption
  isplitl [HO]
  · iexists W'
    isplitr; · (ipureintro; exact fun _ _ => Or.inl trivial)
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 8000 in
/-- The body's triple in the form that the pipeline asks for. -/
theorem body_obligation (c : Dev nD) : BodyObligation (dats (F := F) m ρ 0 c) (defs₀ (F := F)) 𝒱₀ 0 Set.univ := fun t => by
  rw [fin_N0 t, bigSep_W0, bigSep_W0]
  simp only [owns_whole_eq]
  exact sound_body m ρ c

/-! ## The run -/

/-- What a device's launch hands over yields the program's start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xIn m ρ) c)
      ⊢ |={Set.univ}=> iprop(start m ρ c ∗ emp) := by
  unfold G' share start
  iintro ⟨-, Hlev, Hcr, -, ⟨%κ, %ιs, HR, Hat, Hg⟩⟩
  ihave Hc := (creds (F := F) c) $$ Hcr
  icases Hc with ⟨H1, H2, H3⟩
  ihave HR := (Rec_intro (xIn m ρ) κ ιs) $$ [HR Hlev]
  · isplitl [HR] <;> iassumption
  icases HR with #HR
  imodintro
  isplitl
  · iexists κ, ιs
    isplitr; · iexact HR
    iapply (starts_intro (X := xIn m ρ) (κ := κ) (ιs := ιs) c)
    isplitr; · iexact HR
    isplitl [Hat]; · iexact Hat
    isplitl [Hg]; · iexact Hg
    isplitl [H1]; · iexact H1
    isplitl [H2] <;> iassumption
  · iempintro

omit [FloatOps F] in
/-- The scratch buffers are the two double buffers. -/
theorem scoped_eq (c : Dev nD) :
    (Pipeline.scopedRest (Ix := ℕ) (Name := ℕ) (U := UU) (Lvl := ℕ) (Val := Elt F) cfg0.spec c : sProp 𝕄) = iprop(bufAny false c ∗ bufAny true c) := by
  rw [scopedRest0_eq]; rfl

/-- The body's state before the one grid point, -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scoped_eq]
  unfold Φ₀
  iintro ⟨Hs, -, H1, H2⟩
  isplitl [Hs]; · iexact Hs
  isplitl [H1]
  · iexact H1
  · iexact H2

/-- and what it gives back after it. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scoped_eq]
  unfold Φ₁
  rw [← sems0_eq]
  iintro ⟨H1, H2, Ho, Hu⟩
  isplitl [Hu]; · iexact Hu
  isplitl [Ho]; · iexact Ho
  isplitl [H1]
  · iexact H1
  · iexact H2

/-- The pipeline's own waits are allowed: they come before everything that a device owes. -/
theorem waits (c : Dev nD) : (levAts L lv : sProp 𝕄) ⊢ Pipeline.cellsWaits cfgs (dats m ρ) 0 0 c :=
  Pipeline.cellsWaits_intro cfgs (dats m ρ) 0 0 c fun w s t =>
    mayWait c _ (by decide) (by
      rcases t with ⟨_ | _, ht⟩
      · exact O₀_above c
      · exact Above.zero 0)

/-- What an array holds at the end. -/
def finalA (c : Dev nD) (w : Fin cfg0.W) : Buf (Elt F) ((cfg0.win w).arr.view.loc (c : Thread nD τ)) := (dats m ρ 0 c).arrAt w cfg0.N

set_option maxRecDepth 8000 in
/-- From any memory with zero counters, over any float values: every weakly fair execution on the eight devices ends, with
    every array at its final contents and every counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := G' (xIn m ρ)) (u₀ := u₀)
    (hu₀ := by
      unfold u₀
      iintro Hu
      ihave H := (ownU_pair _ _) $$ Hu
      icases H with ⟨HP, HX⟩
      imodintro
      isplitl [HP]; · iexact HP
      iapply (show BI.own (EU ring₀) ⊢ (bigSep Finset.univ (G (F := F)) : sProp 𝕄) from bigSep_deal_one (0 : Dev nD) _)
      iexact HX)
    (hglob := glob (xIn m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they began. -/
theorem finalA_x (c : Dev nD) : finalA m ρ c (0 : Fin 3) = m ((c : Thread nD τ).loc main_arg0) := (dats (F := F) m ρ 0 c).arrAt_in (0 : Fin 3) rfl _
/-- So does the array of `w`. -/
theorem finalA_w (c : Dev nD) : finalA m ρ c (1 : Fin 3) = m ((c : Thread nD τ).loc main_arg1) := (dats (F := F) m ρ 0 c).arrAt_in (1 : Fin 3) rfl _

end Cert.RingProof

end
-- ==== Proof.Frames.lean ====
/- The three frames: every run of the kernel, of its ideal reading and of the reference ends, leaves the arguments as
   they were and every semaphore counter at zero. -/
module

public import proofs.«01_k».proof.Defs
public import proofs.«01_k».proof.Proof.Gen.Kernel
public import proofs.«01_k».proof.Proof.Gen.ReferenceIdeal.Run
public import proofs.«01_k».proof.Proof.Launch

@[expose] public section

namespace Cert.RingProof

open Idealize.ShloMosaic Idealize.ShloMosaic.TcCoe Idealize.SL.Sem

/-- For any float values, every run of the kernel ends with both arguments unchanged on every device and every
    counter at zero. -/
theorem run_args {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1))
      ∧ r.2.sem = fun _ => 0 :=
  (θ_run Cert.KernelIdeal.defs _ _).mono
    (fun _ h => ⟨fun c => ⟨(h.1 c 0).trans (finalA_x m ρ c), (h.1 c 1).trans (finalA_w m ρ c)⟩, h.2⟩)
    (run_main m ρ)

/-- The kernel and its ideal reading run the same function at their one label. -/
theorem bodies_eq : Cert.Kernel.defs₀ (F := Bits) = Cert.KernelIdeal.defs₀ (F := Bits) :=
  congrArg Defs.onTc (funext fun ℓ => funext fun a => by
    match ℓ, a with
    | ⟨0, _⟩, (_, _) => rfl
    | ⟨_ + 1, h⟩, _ => exact absurd h (Nat.not_lt.2 (Nat.le_add_left _ _)))

/-- Hence they have the same body table. -/
theorem tables_eq : Cert.Kernel.defs (F := Bits) = Cert.KernelIdeal.defs (F := Bits) :=
  congrArg (Pipeline.defs Cert.KernelIdeal.pcfgs) bodies_eq

/-- The kernel's frame on machine words. -/
theorem frame_kernel : Cert.quiescent_Kernel := by
  intro m ρ _
  rw [tables_eq]
  exact run_args (F := Bits) m ρ

/-- The frame of the kernel's ideal reading. -/
theorem frame_ideal : Cert.quiescent_KernelIdeal := fun m ρ _ => run_args (F := Ideal) m ρ

/-- The reference's frame: it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

end Cert.RingProof

end
-- ==== Proof.Values.lean ====
/- The values: what the kernel leaves in its result array is, over the reals, device `c`'s block of columns of the
   positive part of the plain product of the whole arrays; and so is what the reference leaves. -/
module

public import proofs.«01_k».proof.Proof.Frames
public import Idealize.ShloMosaic.Lib.Pointwise
public import Idealize.ShloMosaic.Lib.Layout

@[expose] public section

noncomputable section

namespace Cert.RingProof

open Cert.KernelIdeal Cert.KernelIdeal.Gen
open Idealize.ShloMosaic Idealize.ShloMosaic.TcCoe
open Cert.ReferenceIdeal (S4096x4096 S4096x8192)
open scoped BigOperators

/-- An entry of the product a device stores for its own 512 rows: the positive part of a sum over the 4096 positions. -/
theorem pay3_apply (x : Vec Ideal S512x4096 .f32) (w : Vec Ideal S4096x1024 .f32) (i : S512x1024.Idx) :
    k0_pay3 x w i = max (∑ k : Fin 4096, x (ix2 (i 0) k) * w (ix2 k (i 1))) (0 : EReal) := by
  simp only [k0_pay3, pointwise, zero_add]

/-- An entry of the product a device stores for a chunk of 256 rows. -/
theorem pay4_apply (v : Vec Ideal S1x256x4096 .f32) (w : Vec Ideal S4096x1024 .f32) (i : S256x1024.Idx) :
    k0_pay4 v w i = max (∑ k : Fin 4096, v (ix3 0 (i 0) k) * w (ix2 k (i 1))) (0 : EReal) := by
  simp only [k0_pay4, pointwise, zero_add]

/-- Row `r` of the chunk in lane `b` is a row of the upper or of the lower half of its home device's block of `x`. -/
theorem chunk_apply (X : Dev nD → Vec Ideal S512x4096 .f32) (b : Bool) (h : ℕ) (c : Dev nD) (r : Fin 256) (k : Fin 4096) (r' : Fin 512)
    (hr : r'.val = 256 * b.toNat + r.val) :
    chunk X b h c (ix3 0 r k) = X (home b h c) (ix2 r' k) := by
  cases b <;> simp only [chunk, Bool.false_eq_true, if_false, if_true, k0_pay1, k0_pay2, pointwise]
  · refine congrArg (X (home false h c)) (ext2 ?_ ?_)
    · show 0 + 1 * r.val = r'.val
      rw [hr]; show _ = 256 * 0 + _; omega
    · show 0 + 1 * k.val = k.val; omega
  · refine congrArg (X (home true h c)) (ext2 ?_ ?_)
    · show 256 + 1 * r.val = r'.val
      rw [hr]; show _ = 256 * 1 + _; omega
    · show 0 + 1 * k.val = k.val; omega

/-- The plain product's positive part over the whole arrays. -/
def product (x : S4096x4096.Idx → EReal) (w : S4096x8192.Idx → EReal) : S4096x8192.Idx → EReal := fun j =>
  max (∑ k : Fin 4096, x (ix2 (j 0) k) * w (ix2 k (j 1))) 0

/-- The reference's composed operations are that. -/
theorem reference_eq (x : S4096x4096.Idx → EReal) (w : S4096x8192.Idx → EReal) :
    maximumf (F := Ideal) (φ := .f32) (Host.dotGeneral (F := Ideal) (φ₁ := .f32) (φ₂ := .f32)
      Cert.ReferenceIdeal.dot_S4096x4096_S4096x8192_S4096x8192_1_0_0_1_n_n none x w)
      (broadcastInDim S4096x8192 ![] Cert.ReferenceIdeal.Facts₀.bcast_S_S4096x8192 (constant Cert.ReferenceIdeal.S_ .f32 0x00000000#32)) = product x w := by
  funext j
  simp only [pointwise, product, zero_add]

section
variable (X : Dev nD → Vec Ideal S512x4096 .f32) (Wt : Dev nD → Vec Ideal S4096x1024 .f32)
variable (x : S4096x4096.Idx → EReal) (w : S4096x8192.Idx → EReal)

/-- Row `r` of device `d`'s block of `x` is row `512 d + r` of the whole. -/
theorem x_entry (hX : ∀ c, X c = Layout.block S512x4096 S4096x4096 0 8 c x) (d : Dev nD) (r : Fin 512) (r' : Fin 4096) (k : Fin 4096)
    (h : r'.val = 512 * d.val + r.val) : X d (ix2 r k) = x (ix2 r' k) := by
  rw [hX]
  refine congrArg x (ext2 ?_ ?_)
  · show d.val * 512 + r.val = r'.val
    omega
  · rfl

/-- Column `l` of device `c`'s block of `w` is column `1024 c + l` of the whole. -/
theorem w_entry (hW : ∀ c, Wt c = Layout.block S4096x1024 S4096x8192 1 8 c w) (c : Dev nD) (k : Fin 4096) (l : Fin 1024) (l' : Fin 8192)
    (h : l'.val = 1024 * c.val + l.val) : Wt c (ix2 k l) = w (ix2 k l') := by
  rw [hW]
  refine congrArg w (ext2 ?_ ?_)
  · rfl
  · show c.val * 1024 + l.val = l'.val
    omega

/-- Device `c`'s result is its block of columns of the whole product's positive part: each row of the result comes from the
    device whose block of `x` holds that row, whichever way around the ring it came. -/
theorem outFinal_eq (hX : ∀ c, X c = Layout.block S512x4096 S4096x4096 0 8 c x)
    (hW : ∀ c, Wt c = Layout.block S4096x1024 S4096x8192 1 8 c w) (c : Dev nD) :
    outFinal X Wt c = Layout.block S4096x1024 S4096x8192 1 8 c (product x w) := by
  funext i
  have hm := home_hopOf c i
  have hi : (i 0).val < 4096 := (i 0).isLt
  have hj : (i 1).val < 1024 := (i 1).isLt
  have hc : c.val < 8 := c.isLt
  have hcol : ∀ k : Fin 4096, Wt c (ix2 k (i 1)) = w (ix2 k ⟨c.val * 1024 + (i 1).val, by omega⟩) := fun k =>
    w_entry Wt w hW c k (i 1) ⟨c.val * 1024 + (i 1).val, by omega⟩ (by show c.val * 1024 + _ = _; omega)
  unfold outFinal
  split
  · rename_i h0
    rw [h0, home_zero] at hm
    rw [pay3_apply]
    refine congrArg (max · (0 : EReal)) (Finset.sum_congr rfl fun k _ => ?_)
    refine congrArg₂ (· * ·) (x_entry X x hX c _ (i 0) k ?_) (hcol k)
    show (i 0).val = 512 * c.val + (i 0).val % 512
    omega
  · rw [pay4_apply]
    refine congrArg (max · (0 : EReal)) (Finset.sum_congr rfl fun k _ => ?_)
    refine congrArg₂ (· * ·) ?_ (hcol k)
    have hb : (laneOf i).toNat = (i 0).val % 512 / 256 := by
      cases hl : laneOf i
      · have := of_decide_eq_false hl
        show 0 = _; omega
      · have := of_decide_eq_true hl
        show 1 = _; omega
    refine (chunk_apply X (laneOf i) (hopOf c i) c _ k ⟨(i 0).val % 512, by omega⟩ ?_).trans (x_entry X x hX _ _ (i 0) k ?_)
    · show (i 0).val % 512 = 256 * (laneOf i).toNat + (i 0).val % 256
      omega
    · show (i 0).val = 512 * (home (laneOf i) (hopOf c i) c).val + (i 0).val % 512
      omega
end

section
variable {F : FTy → Type} [FloatOps F] (m : (ℓ : Loc nD τ sig) → Buf (Elt F) ℓ) (ρ : Dev nD → PrngReg)

/-- The first window's one block is the whole of the first argument. -/
theorem xIn_eq (c : Dev nD) : xIn m ρ c = m ((c : Thread nD τ).loc main_arg0) := by
  funext i
  refine congrArg (m ((c : Thread nD τ).loc main_arg0)) (ext2 (n := 512) (m := 4096) ?_ ?_)
  · show 0 * 512 + 1 * (i 0).val = (i 0).val; omega
  · show 0 * 4096 + 1 * (i 1).val = (i 1).val; omega

/-- The second window's one block is the whole of the second argument. -/
theorem wIn_eq (c : Dev nD) : wIn m ρ c = m ((c : Thread nD τ).loc main_arg1) := by
  funext i
  refine congrArg (m ((c : Thread nD τ).loc main_arg1)) (ext2 (n := 4096) (m := 1024) ?_ ?_)
  · show 0 * 4096 + 1 * (i 0).val = (i 0).val; omega
  · show 0 * 1024 + 1 * (i 1).val = (i 1).val; omega

/-- The result window's one block, read back after its write, is what the program left in the staging buffer. -/
theorem block_out (c : Dev nD) : (win0_2.blk (0 : Fin 1)).view.read (Elt F) (finalA m ρ c (2 : Fin 3)) = outFinal (xIn m ρ) (wIn m ρ) c := by
  unfold finalA
  rw [show cfg0.N = ((0 : Fin 1) : Fin cfg0.N).val + 1 from rfl, (dats m ρ 0 c).arrAt_succ (2 : Fin 3) (0 : Fin 1),
    if_pos (flush0_2 (0 : Fin 1))]
  exact View.read_write_univ _ _

/-- That block is the whole result array. -/
theorem finalA_out (c : Dev nD) : finalA m ρ c (2 : Fin 3) = outFinal (xIn m ρ) (wIn m ρ) c := by
  rw [← block_out]
  funext i
  refine congrArg (finalA m ρ c (2 : Fin 3)) (ext2 (n := 4096) (m := 1024) ?_ ?_)
  · show (i 0).val = 0 * 4096 + 1 * (i 0).val; omega
  · show (i 1).val = 0 * 1024 + 1 * (i 1).val; omega
end

end Cert.RingProof

end
-- ==== Proof.Algebraic.lean ====
/- The value claim: with the arguments cut over the mesh, device `c`'s result is block `c` of the reference's. -/
module

public import proofs.«01_k».proof.Proof.Values

@[expose] public section

noncomputable section

namespace Cert.RingProof

open Idealize.ShloMosaic Idealize.ShloMosaic.TcCoe Idealize.SL.Sem

/-- Both runs end, the kernel's with block `c` of the plain product's positive part on device `c`, the reference's with
    the whole of it; the arguments are unchanged in both. -/
theorem algebraic : Cert.algebraic_KernelIdeal_ReferenceIdeal := by
  intro m ρ m' ρ' _ hagree
  refine ⟨product (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun r h c => ⟨?_, (h.1 c 0).trans (finalA_x m ρ c), (h.1 c 1).trans (finalA_w m ρ c)⟩)
      (run_main (F := Ideal) m ρ)
    refine (h.1 c 2).trans ((finalA_out m ρ c).trans (outFinal_eq _ _ _ _ ?_ ?_ c))
    · exact fun d => (xIn_eq m ρ d).trans (hagree d).1
    · exact fun d => (wIn_eq m ρ d).trans (hagree d).2
  · refine (θ_run Cert.ReferenceIdeal.defs _ _).mono (fun r h => ?_) (Cert.ReferenceIdeal.Value.run m' ρ')
    exact ⟨(h 0).1.trans (reference_eq _ _), (h 0).2⟩

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The whole certificate: the three frames, the rewrites (there are none) and the value claim. -/
theorem claim : Cert.Claim := ⟨Cert.Kernel.Gen.facts, Cert.KernelIdeal.Gen.facts, Cert.ReferenceIdeal.Gen.facts,
  Cert.RingProof.frame_kernel, Cert.RingProof.frame_ideal, Cert.RingProof.frame_reference, trivial, Cert.RingProof.algebraic⟩

end Cert.Proof

end
